-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S16x2048x64 : Shape := ⟨3, ![16, 2048, 64]⟩
abbrev S16x256 : Shape := ⟨2, ![16, 256]⟩
abbrev S16 : Shape := ⟨1, ![16]⟩
abbrev S16x1 : Shape := ⟨2, ![16, 1]⟩
abbrev S_ : Shape := ⟨0, ![]⟩

class Facts : Prop where
  bcast_S16_S16x1_0 : S16.BroadcastsInDim S16x1 (![0] : Fin 1 → Fin S16x1.rank)
  bcast_S_S16x256 : S_.BroadcastsInDim S16x256 (![] : Fin 0 → Fin S16x256.rank)
  bcast_S_S16x1 : S_.BroadcastsInDim S16x1 (![] : Fin 0 → Fin S16x1.rank)
  bcast_S16x1_S16x256_0_1 : S16x1.BroadcastsInDim S16x256 (![0, 1] : Fin 2 → Fin S16x256.rank)

variable [Facts]

def fn {F : FTy → Type} [FloatOps F] (main_arg0 : FVec F S16x2048x64 .f32) (main_arg1 : IVec S16x256 32) (main_arg2 : IVec S16 32) (main_arg3 : IVec S16 32) : IVec S16x256 1 :=
  let main_v0 : IVec S16x1 32 := broadcastInDim S16x1 ![0] bcast_S16_S16x1_0 main_arg2
  let main_v1 : IVec S16x1 32 := broadcastInDim S16x1 ![0] bcast_S16_S16x1_0 main_arg3
  let main_c : IVec S_ 32 := constantI S_ 32 1#32
  let main_v2 : IVec S16x256 32 := broadcastInDim S16x256 ![] bcast_S_S16x256 main_c
  let main_v3 : IVec S16x256 1 := cmpi .sge main_arg1 main_v2
  let main_c_0 : IVec S_ 32 := constantI S_ 32 64#32
  let main_v4 : IVec S16x256 32 := broadcastInDim S16x256 ![] bcast_S_S16x256 main_c_0
  let main_v5 : IVec S16x256 1 := cmpi .slt main_arg1 main_v4
  let main_v6 : IVec S16x256 1 := andi main_v3 main_v5
  let main_c_1 : IVec S_ 32 := constantI S_ 32 1024#32
  let main_v7 : IVec S16x1 32 := broadcastInDim S16x1 ![] bcast_S_S16x1 main_c_1
  let main_v8 : IVec S16x1 1 := cmpi .sge main_v0 main_v7
  let main_v9 : IVec S16x256 1 := broadcastInDim S16x256 ![0, 1] bcast_S16x1_S16x256_0_1 main_v8
  let main_v10 : IVec S16x256 1 := andi main_v6 main_v9
  let main_c_2 : IVec S_ 32 := constantI S_ 32 1#32
  let main_v11 : IVec S16x1 32 := broadcastInDim S16x1 ![] bcast_S_S16x1 main_c_2
  let main_v12 : IVec S16x1 1 := cmpi .sge main_v1 main_v11
  let main_v13 : IVec S16x256 1 := broadcastInDim S16x256 ![0, 1] bcast_S16x1_S16x256_0_1 main_v12
  let main_v14 : IVec S16x256 1 := andi main_v10 main_v13
  let main_c_3 : IVec S_ 32 := constantI S_ 32 256#32
  let main_v15 : IVec S16x1 32 := broadcastInDim S16x1 ![] bcast_S_S16x1 main_c_3
  let main_v16 : IVec S16x1 1 := cmpi .sle main_v1 main_v15
  let main_v17 : IVec S16x256 1 := broadcastInDim S16x256 ![0, 1] bcast_S16x1_S16x256_0_1 main_v16
  let main_v18 : IVec S16x256 1 := andi main_v14 main_v17
  main_v18
-- ==== Kernel.lean ====
abbrev S16x2048x64 : Shape := ⟨3, ![16, 2048, 64]⟩
abbrev S16x256 : Shape := ⟨2, ![16, 256]⟩
abbrev S16 : Shape := ⟨1, ![16]⟩
abbrev S16x1 : Shape := ⟨2, ![16, 1]⟩
abbrev S16x255 : Shape := ⟨2, ![16, 255]⟩
abbrev S_ : Shape := ⟨0, ![]⟩
abbrev S16x128 : Shape := ⟨2, ![16, 128]⟩
abbrev S16x384 : Shape := ⟨2, ![16, 384]⟩
abbrev S16x256x64 : Shape := ⟨3, ![16, 256, 64]⟩
abbrev S16x64x256 : Shape := ⟨3, ![16, 64, 256]⟩
abbrev S256x16x384 : Shape := ⟨3, ![256, 16, 384]⟩
abbrev S64x256 : Shape := ⟨2, ![64, 256]⟩
abbrev S1x256 : Shape := ⟨2, ![1, 256]⟩
abbrev S1x64x256 : Shape := ⟨3, ![1, 64, 256]⟩
abbrev S16x256x1 : Shape := ⟨3, ![16, 256, 1]⟩
abbrev S1x256x64 : Shape := ⟨3, ![1, 256, 64]⟩
abbrev S256x64 : Shape := ⟨2, ![256, 64]⟩
abbrev S256x256 : Shape := ⟨2, ![256, 256]⟩
abbrev S256x1x256 : Shape := ⟨3, ![256, 1, 256]⟩
abbrev S256x128 : Shape := ⟨2, ![256, 128]⟩
abbrev S256x1x128 : Shape := ⟨3, ![256, 1, 128]⟩
abbrev S256x1 : Shape := ⟨2, ![256, 1]⟩
abbrev S256x384 : Shape := ⟨2, ![256, 384]⟩
abbrev S256x1x384 : Shape := ⟨3, ![256, 1, 384]⟩
abbrev S1x16x384 : Shape := ⟨3, ![1, 16, 384]⟩

abbrev nBuf : Space → Nat
  | .hbm => 16
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x256, .i32⟩
  | .hbm, ⟨2, _⟩ => ⟨S16, .i32⟩
  | .hbm, ⟨3, _⟩ => ⟨S16, .i32⟩
  | .hbm, ⟨4, _⟩ => ⟨S16x1, .i32⟩
  | .hbm, ⟨5, _⟩ => ⟨S16x1, .i32⟩
  | .hbm, ⟨6, _⟩ => ⟨S16x255, .i32⟩
  | .hbm, ⟨7, _⟩ => ⟨S16x255, .i32⟩
  | .hbm, ⟨8, _⟩ => ⟨S16x255, .i1⟩
  | .hbm, ⟨9, _⟩ => ⟨S16x255, .i32⟩
  | .hbm, ⟨10, _⟩ => ⟨S_, .i32⟩
  | .hbm, ⟨11, _⟩ => ⟨S16x1, .i32⟩
  | .hbm, ⟨12, _⟩ => ⟨S_, .i32⟩
  | .hbm, ⟨13, _⟩ => ⟨S16x128, .i32⟩
  | .hbm, ⟨14, _⟩ => ⟨S16x384, .i32⟩
  | .hbm, ⟨15, _⟩ => ⟨S16x128, .f32⟩
  | .local _ .vmem, ⟨0, _⟩ => ⟨S16x256, .i32⟩
  | .local _ .vmem, ⟨1, _⟩ => ⟨S16x384, .i32⟩
  | .local _ .vmem, ⟨2, _⟩ => ⟨S16x1, .i32⟩
  | .local _ .vmem, ⟨3, _⟩ => ⟨S16x1, .i32⟩
  | .local _ .vmem, ⟨4, _⟩ => ⟨S16x256x64, .f32⟩
  | .local _ .vmem, ⟨5, _⟩ => ⟨S16x256x64, .f32⟩
  | .local _ .vmem, ⟨6, _⟩ => ⟨S16x128, .f32⟩
  | .local _ .vmem, ⟨7, _⟩ => ⟨S16x384, .f32⟩
  | .local _ .vmem, ⟨8, _⟩ => ⟨S16x384, .f32⟩
  | .local _ .vmem, ⟨9, _⟩ => ⟨S16x64x256, .f32⟩
  | .local _ .vmem, ⟨10, _⟩ => ⟨S256x16x384, .f32⟩
  | .local _ .vmem, ⟨11, _⟩ => ⟨S256x16x384, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_219 : BitVec 32 := 0#32
  let v344 : BitVec 1 := Scalar.cmpi .eq arg0 c0_i32_219
  let v345 : BitVec 32 := Scalar.extui v344
  let c0_i32_220 : BitVec 32 := 0#32
  let v346 : BitVec 1 := Scalar.cmpi .ne v345 c0_i32_220
  v346

@[reducible] def k0_t1_loop : Scf.Loop 32 :=
  let c1_i32 : BitVec 32 := 1#32
  let c255_i32 : BitVec 32 := 255#32
  let v371 : BitVec 32 := Scalar.addi c1_i32 c255_i32
  let c1_i32_236 : BitVec 32 := 1#32
  ⟨c1_i32, v371, c1_i32_236⟩
def k0_off1 (k0_t1 : Fin k0_t1_loop.trips) : Fin 3 → Nat :=
  let c1_i32 : BitVec 32 := 1#32
  let c1_i32_236 : BitVec 32 := 1#32
  let arg12 : BitVec 32 := Scf.iv c1_i32 c1_i32_236 k0_t1
  let v379 : Index := Scalar.indexCast arg12
  let c0_242 : Index := 0#32
  let c0_243 : Index := 0#32
  ![v379.toNat, 0, 0]
def k0_cond3 (i : grid0.Coords) : BitVec 1 :=
  let arg0 : BitVec 32 := BitVec.ofNat 32 (i 0).val
  let c0_i32_221 : BitVec 32 := 0#32
  let v347 : BitVec 1 := Scalar.cmpi .sgt arg0 c0_i32_221
  let c4_i32 : BitVec 32 := 4#32
  let v348 : BitVec 1 := Scalar.cmpi .slt arg0 c4_i32
  let v349 : BitVec 1 := Scalar.andi v347 v348
  let v350 : BitVec 32 := Scalar.extui v349
  let c0_i32_222 : BitVec 32 := 0#32
  let v351 : BitVec 1 := Scalar.cmpi .ne v350 c0_i32_222
  v351

@[reducible] def k0_t2_loop : Scf.Loop 32 :=
  let c0_i32_230 : BitVec 32 := 0#32
  let c256_i32 : BitVec 32 := 256#32
  let v360 : BitVec 32 := Scalar.addi c0_i32_230 c256_i32
  let c1_i32 : BitVec 32 := 1#32
  ⟨c0_i32_230, v360, c1_i32⟩
def k0_off2 (k0_t2 : Fin k0_t2_loop.trips) : Fin 3 → Nat :=
  let c0_i32_230 : BitVec 32 := 0#32
  let c1_i32 : BitVec 32 := 1#32
  let arg12 : BitVec 32 := Scf.iv c0_i32_230 c1_i32 k0_t2
  let v368 : Index := Scalar.indexCast arg12
  let c0_236 : Index := 0#32
  let c0_237 : Index := 0#32
  ![v368.toNat, 0, 0]
def k0_cond4 (i : grid0.Coords) : BitVec 1 :=
  let arg0 : BitVec 32 := BitVec.ofNat 32 (i 0).val
  let c4_i32_223 : BitVec 32 := 4#32
  let v352 : BitVec 1 := Scalar.cmpi .sge arg0 c4_i32_223
  let v353 : BitVec 32 := Scalar.extui v352
  let c0_i32_224 : BitVec 32 := 0#32
  let v354 : BitVec 1 := Scalar.cmpi .ne v353 c0_i32_224
  v354

@[reducible] def k0_t3_loop : Scf.Loop 32 :=
  let c0_i32_230 : BitVec 32 := 0#32
  let c256_i32_231 : BitVec 32 := 256#32
  let v361 : BitVec 32 := Scalar.addi c0_i32_230 c256_i32_231
  let c1_i32 : BitVec 32 := 1#32
  ⟨c0_i32_230, v361, c1_i32⟩
def k0_off3 (k0_t3 : Fin k0_t3_loop.trips) : Fin 3 → Nat :=
  let c0_i32_230 : BitVec 32 := 0#32
  let c1_i32 : BitVec 32 := 1#32
  let arg12 : BitVec 32 := Scf.iv c0_i32_230 c1_i32 k0_t3
  let v369 : Index := Scalar.indexCast arg12
  let c0_237 : Index := 0#32
  let c0_238 : Index := 0#32
  ![v369.toNat, 0, 0]
def k0_cond5 (i : grid0.Coords) : BitVec 1 :=
  let arg0 : BitVec 32 := BitVec.ofNat 32 (i 0).val
  let c7_i32 : BitVec 32 := 7#32
  let v355 : BitVec 1 := Scalar.cmpi .eq arg0 c7_i32
  let v356 : BitVec 32 := Scalar.extui v355
  let c0_i32_225 : BitVec 32 := 0#32
  let v357 : BitVec 1 := Scalar.cmpi .ne v356 c0_i32_225
  v357

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S16x2048x64 : Shape := ⟨3, ![16, 2048, 64]⟩
abbrev S16x256 : Shape := ⟨2, ![16, 256]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S16x256x1 : Shape := ⟨3, ![16, 256, 1]⟩
abbrev S16x256x2 : Shape := ⟨3, ![16, 256, 2]⟩
abbrev S16x512 : Shape := ⟨2, ![16, 512]⟩
abbrev S16x1 : Shape := ⟨2, ![16, 1]⟩
abbrev S16x513 : Shape := ⟨2, ![16, 513]⟩
abbrev S16x2 : Shape := ⟨2, ![16, 2]⟩
abbrev S16x511 : Shape := ⟨2, ![16, 511]⟩
abbrev S16x1x513 : Shape := ⟨3, ![16, 1, 513]⟩
abbrev S16x513x1 : Shape := ⟨3, ![16, 513, 1]⟩
abbrev S1 : Shape := ⟨1, ![1]⟩
abbrev S1x1x1 : Shape := ⟨3, ![1, 1, 1]⟩
abbrev S16x2048x513 : Shape := ⟨3, ![16, 2048, 513]⟩
abbrev S16x1x2 : Shape := ⟨3, ![16, 1, 2]⟩
abbrev S16x1x1 : Shape := ⟨3, ![16, 1, 1]⟩
abbrev S16x128 : Shape := ⟨2, ![16, 128]⟩

abbrev nBuf : Space → Nat
  | .hbm => 203
  | .vmem => 0
  | .smem => 0
  | _ => 0

abbrev hbmTy0_0 (i : Nat) : BufTy := match i % 128 with
  | 0 => ⟨S16x2048x64, .f32⟩
  | 1 => ⟨S16x256, .i32⟩
  | 2 => ⟨S16, .i32⟩
  | 3 => ⟨S16, .i32⟩
  | 4 => ⟨S_, .f32⟩
  | 5 => ⟨S16x2048, .f32⟩
  | 6 => ⟨S_, .f32⟩
  | 7 => ⟨S16x2048, .f32⟩
  | 8 => ⟨S16x2048, .f32⟩
  | 9 => ⟨S16x2048x1, .f32⟩
  | 10 => ⟨S16x2048x64, .f32⟩
  | 11 => ⟨S16x2048x64, .f32⟩
  | 12 => ⟨S16x2048x64, .f32⟩
  | 13 => ⟨S_, .f32⟩
  | 14 => ⟨S16x2048, .f32⟩
  | 15 => ⟨S16x2048x1, .f32⟩
  | 16 => ⟨S16x2048x1, .f32⟩
  | 17 => ⟨S16x2048x64, .f32⟩
  | 18 => ⟨S16x2048x64, .f32⟩
  | 19 => ⟨S_, .i32⟩
  | 20 => ⟨S16x256, .i32⟩
  | 21 => ⟨S16x256x1, .i32⟩
  | 22 => ⟨S16x256x1, .i32⟩
  | 23 => ⟨S16x256x2, .i32⟩
  | 24 => ⟨S16x512, .i32⟩
  | 25 => ⟨S_, .i32⟩
  | 26 => ⟨S16x1, .i32⟩
  | 27 => ⟨S16x513, .i32⟩
  | 28 => ⟨S_, .i32⟩
  | 29 => ⟨S16x2, .i32⟩
  | 30 => ⟨S16x511, .i32⟩
  | 31 => ⟨S16x513, .i32⟩
  | 32 => ⟨S_, .i32⟩
  | 33 => ⟨S16x513, .i32⟩
  | 34 => ⟨S16x513, .i1⟩
  | 35 => ⟨S16x513, .i1⟩
  | 36 => ⟨S16x513, .i1⟩
  | 37 => ⟨S16x1x513, .i32⟩
  | 38 => ⟨S_, .i32⟩
  | 39 => ⟨S16x1x513, .i32⟩
  | 40 => ⟨S16x1x513, .i1⟩
  | 41 => ⟨S_, .i32⟩
  | 42 => ⟨S16x1x513, .i32⟩
  | 43 => ⟨S16x1x513, .i32⟩
  | 44 => ⟨S16x1x513, .i32⟩
  | 45 => ⟨S16x513x1, .i32⟩
  | 46 => ⟨S1, .i32⟩
  | 47 => ⟨S_, .i32⟩
  | 48 => ⟨S16x513x1, .i32⟩
  | 49 => ⟨S16x513x1, .i1⟩
  | 50 => ⟨S1x1x1, .i32⟩
  | 51 => ⟨S16x513x1, .i32⟩
  | 52 => ⟨S16x513x1, .i1⟩
  | 53 => ⟨S16x513x1, .i1⟩
  | 54 => ⟨S_, .i1⟩
  | 55 => ⟨S16x513, .i1⟩
  | 56 => ⟨S16x2048x513, .f32⟩
  | 57 => ⟨S16x2048x513, .i1⟩
  | 58 => ⟨S_, .f32⟩
  | 59 => ⟨S16x2048x513, .f32⟩
  | 60 => ⟨S16x2048x513, .f32⟩
  | 61 => ⟨S16x1x2, .f32⟩
  | 62 => ⟨S16x2, .f32⟩
  | 63 => ⟨S_, .f32⟩
  | 64 => ⟨S16x511, .f32⟩
  | 65 => ⟨S16x513, .f32⟩
  | 66 => ⟨S_, .i32⟩
  | 67 => ⟨S_, .i32⟩
  | 68 => ⟨S16x513, .i1⟩
  | 69 => ⟨S16x2048x513, .f32⟩
  | 70 => ⟨S16, .i32⟩
  | 71 => ⟨S_, .i32⟩
  | 72 => ⟨S_, .i32⟩
  | 73 => ⟨S16x513, .f32⟩
  | 74 => ⟨S_, .i32⟩
  | 75 => ⟨S_, .i1⟩
  | 76 => ⟨S_, .i32⟩
  | 77 => ⟨S_, .i32⟩
  | 78 => ⟨S_, .f32⟩
  | 79 => ⟨S16x1, .f32⟩
  | 80 => ⟨S16x512, .f32⟩
  | 81 => ⟨S16x513, .f32⟩
  | 82 => ⟨S_, .f32⟩
  | 83 => ⟨S16x2, .f32⟩
  | 84 => ⟨S16x511, .f32⟩
  | 85 => ⟨S16x513, .f32⟩
  | 86 => ⟨S_, .f32⟩
  | 87 => ⟨S_, .f32⟩
  | 88 => ⟨S16x513, .f32⟩
  | 89 => ⟨S16x513, .f32⟩
  | 90 => ⟨S16x513, .f32⟩
  | 91 => ⟨S16x513, .f32⟩
  | 92 => ⟨S16x513, .f32⟩
  | 93 => ⟨S16x513, .f32⟩
  | 94 => ⟨S16x513, .f32⟩
  | 95 => ⟨S16x513, .f32⟩
  | 96 => ⟨S16x513, .f32⟩
  | 97 => ⟨S16x513, .f32⟩
  | 98 => ⟨S16x513, .f32⟩
  | 99 => ⟨S16x513, .f32⟩
  | 100 => ⟨S16x513, .f32⟩
  | 101 => ⟨S16x513, .f32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S16x1x513, .f32⟩
  | 125 => ⟨S16x513, .f32⟩
  | 126 => ⟨S16x513, .f32⟩
  | 127 => ⟨S_, .i32⟩
  | _ => ⟨S16x2048x64, .f32⟩

abbrev hbmTy0_1 (i : Nat) : BufTy := match i % 128 with
  | 0 => ⟨S16, .i32⟩
  | 1 => ⟨S16, .i1⟩
  | 2 => ⟨S16x1, .i1⟩
  | 3 => ⟨S16x513, .i1⟩
  | 4 => ⟨S16x513, .f32⟩
  | 5 => ⟨S_, .i32⟩
  | 6 => ⟨S_, .i32⟩
  | 7 => ⟨S_, .i32⟩
  | 8 => ⟨S16, .i32⟩
  | 9 => ⟨S16, .i32⟩
  | 10 => ⟨S16x1, .i32⟩
  | 11 => ⟨S_, .i32⟩
  | 12 => ⟨S16x1, .i32⟩
  | 13 => ⟨S16x1, .i1⟩
  | 14 => ⟨S_, .i32⟩
  | 15 => ⟨S16x1, .i32⟩
  | 16 => ⟨S16x1, .i32⟩
  | 17 => ⟨S16x1, .i32⟩
  | 18 => ⟨S16x1x1, .i32⟩
  | 19 => ⟨S1, .i32⟩
  | 20 => ⟨S_, .i32⟩
  | 21 => ⟨S16x1x1, .i32⟩
  | 22 => ⟨S16x1x1, .i1⟩
  | 23 => ⟨S1x1x1, .i32⟩
  | 24 => ⟨S16x1x1, .i32⟩
  | 25 => ⟨S16x1x1, .i1⟩
  | 26 => ⟨S16x1x1, .i1⟩
  | 27 => ⟨S_, .i1⟩
  | 28 => ⟨S16x1, .i1⟩
  | 29 => ⟨S16x1, .f32⟩
  | 30 => ⟨S_, .f32⟩
  | 31 => ⟨S16x1, .f32⟩
  | 32 => ⟨S16x1, .f32⟩
  | 33 => ⟨S16, .f32⟩
  | 34 => ⟨S_, .i32⟩
  | 35 => ⟨S16, .i32⟩
  | 36 => ⟨S16, .i32⟩
  | 37 => ⟨S_, .i32⟩
  | 38 => ⟨S16, .i32⟩
  | 39 => ⟨S16, .i32⟩
  | 40 => ⟨S16x1, .i32⟩
  | 41 => ⟨S_, .i32⟩
  | 42 => ⟨S16x1, .i32⟩
  | 43 => ⟨S16x1, .i1⟩
  | 44 => ⟨S_, .i32⟩
  | 45 => ⟨S16x1, .i32⟩
  | 46 => ⟨S16x1, .i32⟩
  | 47 => ⟨S16x1, .i32⟩
  | 48 => ⟨S16x1x1, .i32⟩
  | 49 => ⟨S1, .i32⟩
  | 50 => ⟨S_, .i32⟩
  | 51 => ⟨S16x1x1, .i32⟩
  | 52 => ⟨S16x1x1, .i1⟩
  | 53 => ⟨S1x1x1, .i32⟩
  | 54 => ⟨S16x1x1, .i32⟩
  | 55 => ⟨S16x1x1, .i1⟩
  | 56 => ⟨S16x1x1, .i1⟩
  | 57 => ⟨S_, .i1⟩
  | 58 => ⟨S16x1, .i1⟩
  | 59 => ⟨S16x1, .f32⟩
  | 60 => ⟨S_, .f32⟩
  | 61 => ⟨S16x1, .f32⟩
  | 62 => ⟨S16x1, .f32⟩
  | 63 => ⟨S16, .f32⟩
  | 64 => ⟨S16, .f32⟩
  | 65 => ⟨S16, .f32⟩
  | 66 => ⟨S16, .f32⟩
  | 67 => ⟨S16, .f32⟩
  | 68 => ⟨S16, .f32⟩
  | 69 => ⟨S16, .f32⟩
  | 70 => ⟨S16, .f32⟩
  | 71 => ⟨S16, .f32⟩
  | 72 => ⟨S16x1, .f32⟩
  | 73 => ⟨S16x1, .f32⟩
  | 74 => ⟨S16x128, .f32⟩
  | _ => ⟨S16x2048x64, .f32⟩

abbrev hbmTy (i : Nat) : BufTy := match i / 128 with
  | 0 => hbmTy0_0 i
  | 1 => hbmTy0_1 i
  | _ => ⟨S16x2048x64, .f32⟩

abbrev bufTy : (tb : Table) → Fin (tcTables nBuf tb) → BufTy
  | .hbm, ⟨i, _⟩ => hbmTy i
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_c_4 : Ref sig .tc := ⟨.hbm, 67, rfl⟩
abbrev main_v21_0 : Ref sig .tc := ⟨.hbm, 68, rfl⟩
abbrev main_v21_1 : Ref sig .tc := ⟨.hbm, 69, rfl⟩
abbrev main_v21_2 : Ref sig .tc := ⟨.hbm, 70, rfl⟩
abbrev main_v21_3 : Ref sig .tc := ⟨.hbm, 71, rfl⟩
abbrev main_v21_4 : Ref sig .tc := ⟨.hbm, 72, rfl⟩
abbrev main_v21_5 : Ref sig .tc := ⟨.hbm, 73, rfl⟩
abbrev main_while0c_c_13 : Ref sig .tc := ⟨.hbm, 74, rfl⟩
abbrev main_while0c_v45 : Ref sig .tc := ⟨.hbm, 75, rfl⟩
abbrev main_while0b_c_13 : Ref sig .tc := ⟨.hbm, 76, rfl⟩
abbrev main_while0b_v45 : Ref sig .tc := ⟨.hbm, 77, rfl⟩
abbrev main_while0b_cst_14 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_cst_15 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_cst_16 : Ref sig .tc := ⟨.hbm, 86, rfl⟩
abbrev main_while0b_call2_v0 : Ref sig .tc := ⟨.hbm, 87, rfl⟩
abbrev main_while0b_call2_v1 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_c_17 : Ref sig .tc := ⟨.hbm, 103, rfl⟩
abbrev main_while0b_c_18 : Ref sig .tc := ⟨.hbm, 104, rfl⟩
abbrev main_while0b_v66 : Ref sig .tc := ⟨.hbm, 105, rfl⟩
abbrev main_while0b_c_19 : Ref sig .tc := ⟨.hbm, 106, rfl⟩
abbrev main_while0b_c_20 : Ref sig .tc := ⟨.hbm, 107, rfl⟩
abbrev main_while0b_v67 : Ref sig .tc := ⟨.hbm, 108, rfl⟩
abbrev main_while0b_c_21 : Ref sig .tc := ⟨.hbm, 109, rfl⟩
abbrev main_while0b_v68 : Ref sig .tc := ⟨.hbm, 110, rfl⟩
abbrev main_while0b_c_22 : Ref sig .tc := ⟨.hbm, 111, rfl⟩
abbrev main_while0b_v69 : Ref sig .tc := ⟨.hbm, 112, rfl⟩
abbrev main_while0b_c_23 : Ref sig .tc := ⟨.hbm, 113, rfl⟩
abbrev main_while0b_v70 : Ref sig .tc := ⟨.hbm, 114, rfl⟩
abbrev main_while0b_v71 : Ref sig .tc := ⟨.hbm, 115, rfl⟩
abbrev main_while0b_c_24 : Ref sig .tc := ⟨.hbm, 116, rfl⟩
abbrev main_while0b_c_25 : Ref sig .tc := ⟨.hbm, 117, rfl⟩
abbrev main_while0b_v72 : Ref sig .tc := ⟨.hbm, 118, rfl⟩
abbrev main_while0b_c_26 : Ref sig .tc := ⟨.hbm, 119, rfl⟩
abbrev main_while0b_c_27 : Ref sig .tc := ⟨.hbm, 120, rfl⟩
abbrev main_while0b_v73 : Ref sig .tc := ⟨.hbm, 121, rfl⟩
abbrev main_while0b_c_28 : Ref sig .tc := ⟨.hbm, 122, rfl⟩
abbrev main_while0b_v74 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_v78 : Ref sig .tc := ⟨.hbm, 127, rfl⟩
abbrev main_while0b_v79 : Ref sig .tc := ⟨.hbm, 128, rfl⟩
abbrev main_while0b_v80 : Ref sig .tc := ⟨.hbm, 129, rfl⟩
abbrev main_while0b_v81 : Ref sig .tc := ⟨.hbm, 130, rfl⟩
abbrev main_while0b_call3_v0 : Ref sig .tc := ⟨.hbm, 131, rfl⟩
abbrev main_while0b_v82 : Ref sig .tc := ⟨.hbm, 132, rfl⟩
abbrev main_while0b_c_29 : Ref sig .tc := ⟨.hbm, 133, rfl⟩
abbrev main_while0b_v83 : Ref sig .tc := ⟨.hbm, 134, rfl⟩
abbrev main_c_5 : Ref sig .tc := ⟨.hbm, 135, rfl⟩
abbrev main_v22 : Ref sig .tc := ⟨.hbm, 136, rfl⟩
abbrev main_v23 : Ref sig .tc := ⟨.hbm, 137, rfl⟩
abbrev main_v24 : Ref sig .tc := ⟨.hbm, 138, rfl⟩
abbrev main_call4_c : Ref sig .tc := ⟨.hbm, 139, rfl⟩
abbrev main_call4_v0 : Ref sig .tc := ⟨.hbm, 140, rfl⟩
abbrev main_call4_v1 : Ref sig .tc := ⟨.hbm, 141, rfl⟩
abbrev main_call4_c_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_c_1 : Ref sig .tc := ⟨.hbm, 147, rfl⟩
abbrev main_call4_c_2 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_3 : Ref sig .tc := ⟨.hbm, 155, rfl⟩
abbrev main_call4_v12 : Ref sig .tc := ⟨.hbm, 156, rfl⟩
abbrev main_call4_v13 : Ref sig .tc := ⟨.hbm, 157, rfl⟩
abbrev main_call4_cst : Ref sig .tc := ⟨.hbm, 158, rfl⟩
abbrev main_call4_v14 : Ref sig .tc := ⟨.hbm, 159, rfl⟩
abbrev main_v25 : Ref sig .tc := ⟨.hbm, 160, rfl⟩
abbrev main_v26 : Ref sig .tc := ⟨.hbm, 161, rfl⟩
abbrev main_c_6 : Ref sig .tc := ⟨.hbm, 162, rfl⟩
abbrev main_v27 : Ref sig .tc := ⟨.hbm, 163, rfl⟩
abbrev main_v28 : Ref sig .tc := ⟨.hbm, 164, rfl⟩
abbrev main_c_7 : Ref sig .tc := ⟨.hbm, 165, rfl⟩
abbrev main_v29 : Ref sig .tc := ⟨.hbm, 166, rfl⟩
abbrev main_v30 : Ref sig .tc := ⟨.hbm, 167, rfl⟩
abbrev main_v31 : Ref sig .tc := ⟨.hbm, 168, rfl⟩
abbrev main_call5_c : Ref sig .tc := ⟨.hbm, 169, rfl⟩
abbrev main_call5_v0 : Ref sig .tc := ⟨.hbm, 170, rfl⟩
abbrev main_call5_v1 : Ref sig .tc := ⟨.hbm, 171, rfl⟩
abbrev main_call5_c_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_c_1 : Ref sig .tc := ⟨.hbm, 177, rfl⟩
abbrev main_call5_c_2 : Ref sig .tc := ⟨.hbm, 178, rfl⟩
abbrev main_call5_v6 : Ref sig .tc := ⟨.hbm, 179, rfl⟩
abbrev main_call5_v7 : Ref sig .tc := ⟨.hbm, 180, rfl⟩
abbrev main_call5_v8 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_c_3 : Ref sig .tc := ⟨.hbm, 185, rfl⟩
abbrev main_call5_v12 : Ref sig .tc := ⟨.hbm, 186, rfl⟩
abbrev main_call5_v13 : Ref sig .tc := ⟨.hbm, 187, rfl⟩
abbrev main_call5_cst : Ref sig .tc := ⟨.hbm, 188, rfl⟩
abbrev main_call5_v14 : Ref sig .tc := ⟨.hbm, 189, rfl⟩
abbrev main_v32 : Ref sig .tc := ⟨.hbm, 190, rfl⟩
abbrev main_v33 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_v44 : Ref sig .tc := ⟨.hbm, 202, rfl⟩

abbrev nD : Nat := 1
abbrev τ : Topo := Topo.v7x

variable {F : FTy → Type} [FloatOps F]

abbrev main_while0_count : Scf.Loop 32 := ⟨0#32, 2047#32, 1#32⟩
-- ==== Proof.Alpha.lean ====
/- The recursion of the loss over the time steps, over the extended reals, and the lemmas that pass between its
   natural logarithm form and the form scaled by one over the logarithm of two. -/
module

public import Idealize.ShloMosaic.PureOps.Ideal
public import Mathlib.Analysis.SpecialFunctions.Pow.Real

@[expose] public section

noncomputable section

namespace Cert.Ctc

open Idealize.ShloMosaic

/-- One over the natural logarithm of two: what takes a natural logarithm to one of base two. -/
def C : EReal := (((Real.log 2)⁻¹ : ℝ) : EReal)

/-- The natural logarithm of two. -/
def D : EReal := ((Real.log 2 : ℝ) : EReal)

theorem log2_pos : 0 < Real.log 2 := Real.log_pos (by norm_num)

theorem inv_log2_pos : 0 < (Real.log 2)⁻¹ := inv_pos.mpr log2_pos

theorem C_pos : (0 : EReal) < C := EReal.coe_pos.mpr inv_log2_pos

theorem C_ne_top : C ≠ ⊤ := EReal.coe_ne_top _

theorem mul_C_D (x : EReal) : x * C * D = x := by
  rw [mul_assoc]
  have : C * D = 1 := by
    unfold C D
    rw [← EReal.coe_mul, inv_mul_cancel₀ log2_pos.ne', EReal.coe_one]
  rw [this, mul_one]

theorem add_mul_C (x y : EReal) : (x + y) * C = x * C + y * C := by
  rw [mul_comm, mul_comm x, mul_comm y]
  exact EReal.left_distrib_of_nonneg_of_ne_top C_pos.le C_ne_top x y

theorem sub_mul_C (x y : EReal) : (x - y) * C = x * C - y * C := by
  rw [sub_eq_add_neg, sub_eq_add_neg, add_mul_C, EReal.neg_mul]

theorem bot_mul_C : (⊥ : EReal) * C = ⊥ := EReal.bot_mul_of_pos C_pos

theorem max_mul_C (x y : EReal) : max x y * C = max (x * C) (y * C) := by
  have hm : Monotone fun z : EReal => z * C := fun a b h => mul_le_mul_of_nonneg_right h C_pos.le
  exact hm.map_max

/-- Two to the power of a scaled number is the exponential of the number. -/
theorem exp2_mul_C (x : EReal) : Ideal.exp2 (x * C) = Ideal.exp x := by
  induction x with
  | bot => rw [bot_mul_C]; rfl
  | top => rw [show (⊤ : EReal) * C = ⊤ from EReal.top_mul_of_pos C_pos]; rfl
  | coe r =>
    unfold C
    rw [← EReal.coe_mul, Ideal.exp2_coe, Ideal.exp_coe]
    congr 1
    show (2 : ℝ) ^ (r * (Real.log 2)⁻¹) = Real.exp r
    rw [Real.rpow_def_of_pos (by norm_num : (0 : ℝ) < 2)]
    congr 1
    rw [mul_comm r, ← mul_assoc, mul_inv_cancel₀ log2_pos.ne', one_mul]

theorem bot_sub (x : EReal) : (⊥ : EReal) - x = ⊥ := by rw [sub_eq_add_neg, EReal.bot_add]

/-- The log of a sum of three exponentials, taken over their largest. -/
def lse3 (a b c : EReal) : EReal :=
  max (max a b) c + Ideal.log (Ideal.exp (a - max (max a b) c) + Ideal.exp (b - max (max a b) c) + Ideal.exp (c - max (max a b) c))

/-- The log of a sum of two exponentials, taken over their largest. -/
def lse2 (a b : EReal) : EReal := max a b + Ideal.log (Ideal.exp (a - max a b) + Ideal.exp (b - max a b))

/-- The two end states' log of the sum of the exponentials, scaled throughout. -/
def lse2C (a b : EReal) : EReal := max a b + Ideal.log (Ideal.exp2 (a - max a b) + Ideal.exp2 (b - max a b)) * C

/-- One step of an even state, scaled throughout. -/
def stepB (a b e : EReal) : EReal := (max a b + e) + Ideal.log (Ideal.exp2 (a - max a b) + Ideal.exp2 (b - max a b)) * C

/-- One step of an odd state, scaled throughout. -/
def stepC (a b c e : EReal) : EReal :=
  (max (max a b) c + e)
    + Ideal.log (Ideal.exp2 (a - max (max a b) c) + Ideal.exp2 (b - max (max a b) c) + Ideal.exp2 (c - max (max a b) c)) * C

theorem lse3_bot (a b : EReal) : lse3 a b ⊥ = lse2 a b := by
  unfold lse3 lse2
  rw [max_bot_right, bot_sub, Ideal.exp_bot, add_zero]

theorem lse2C_scaled (a b : EReal) : lse2C (a * C) (b * C) = lse2 a b * C := by
  unfold lse2C lse2
  rw [← max_mul_C, ← sub_mul_C, ← sub_mul_C, exp2_mul_C, exp2_mul_C, add_mul_C]

theorem stepB_scaled (a b e : EReal) : stepB (a * C) (b * C) (e * C) = (lse2 a b + e) * C := by
  unfold stepB lse2
  rw [← max_mul_C, ← sub_mul_C, ← sub_mul_C, exp2_mul_C, exp2_mul_C, ← add_mul_C, ← add_mul_C, add_right_comm]

theorem stepC_scaled (a b c e : EReal) : stepC (a * C) (b * C) (c * C) (e * C) = (lse3 a b c + e) * C := by
  unfold stepC lse3
  rw [← max_mul_C, ← max_mul_C, ← sub_mul_C, ← sub_mul_C, ← sub_mul_C, exp2_mul_C, exp2_mul_C, exp2_mul_C, ← add_mul_C,
    ← add_mul_C, add_right_comm]

/-- A step with nothing emitted leaves nothing. -/
theorem stepC_bot (a b c : EReal) : stepC a b c ⊥ = ⊥ := by
  unfold stepC
  rw [EReal.add_bot, EReal.bot_add]

/-- The state before, nothing before the first. -/
def prev1 (a : ℕ → EReal) (s : ℕ) : EReal := if s = 0 then ⊥ else a (s - 1)

/-- The state before the state before, nothing where there is none. -/
def prev2 (a : ℕ → EReal) (s : ℕ) : EReal := if s < 2 then ⊥ else a (s - 2)

/-- One time step of the recursion on all the states: with `E` the emitted log-probabilities at that step and `sk` the
    states that may be entered from two states before. -/
def next (E : ℕ → EReal) (sk : ℕ → Prop) [DecidablePred sk] (a : ℕ → EReal) (s : ℕ) : EReal :=
  lse3 (a s) (prev1 a s) (if sk s then prev2 a s else ⊥) + E s

/-- The recursion: the states after time step `t`, of a sample that `live` says is still running. -/
def alpha (E : ℕ → ℕ → EReal) (sk : ℕ → Prop) [DecidablePred sk] (live : ℕ → Prop) [DecidablePred live] : ℕ → ℕ → EReal
  | 0, s => if s < 2 then E 0 s else ⊥
  | t + 1, s => if live (t + 1) then next (E (t + 1)) sk (alpha E sk live t) s else alpha E sk live t s

section
variable (E : ℕ → ℕ → EReal) (sk : ℕ → Prop) [DecidablePred sk] (live : ℕ → Prop) [DecidablePred live]

/-- The even states and the odd states of the recursion after step `t`, scaled, each in a row of 384 lanes: `b` holds the
    first 257 even states and `c` the 256 odd ones, with nothing in the last lane. -/
structure Rows (t : ℕ) (b c : ℕ → EReal) : Prop where
  even : ∀ k, k ≤ 256 → b k = alpha E sk live t (2 * k) * C
  odd : ∀ k, k < 256 → c k = alpha E sk live t (2 * k + 1) * C
  last : c 383 = ⊥

/-- The lane before, around the row. -/
def roll (c : ℕ → EReal) (k : ℕ) : EReal := if k = 0 then c 383 else c (k - 1)

/-- The rows before the first step of the recursion. -/
theorem Rows.zero {b c : ℕ → EReal} (hb0 : b 0 = E 0 0 * C) (hb : ∀ k, 0 < k → k ≤ 256 → b k = ⊥) (hc0 : c 0 = E 0 1 * C)
    (hc : ∀ k, 0 < k → k < 384 → c k = ⊥) : Rows E sk live 0 b c where
  even k hk := by
    rcases Nat.eq_zero_or_pos k with rfl | h
    · rw [hb0]; rfl
    · rw [hb k h hk, alpha, if_neg (by omega), bot_mul_C]
  odd k hk := by
    rcases Nat.eq_zero_or_pos k with rfl | h
    · rw [hc0]; rfl
    · rw [hc k h (by omega), alpha, if_neg (by omega), bot_mul_C]
  last := hc 383 (by omega) (by omega)

/-- One step on the rows is one step of the recursion. -/
theorem Rows.step {t : ℕ} {b c b' c' el : ℕ → EReal} {eb : EReal} {skc : ℕ → Prop} [DecidablePred skc] (h : Rows E sk live t b c)
    (heven : ∀ k, ¬ sk (2 * k)) (hskc : ∀ k, 0 < k → k < 256 → (skc k ↔ sk (2 * k + 1)))
    (heb : ∀ k, k ≤ 256 → E (t + 1) (2 * k) * C = eb) (hel : ∀ k, k < 256 → el k = E (t + 1) (2 * k + 1) * C)
    (hel' : el 383 = ⊥)
    (hb' : ∀ k, k ≤ 256 → b' k = if live (t + 1) then stepB (b k) (roll c k) eb else b k)
    (hc' : ∀ k, k < 384 → c' k = if live (t + 1) then stepC (c k) (b k) (if skc k then roll c k else ⊥) (el k) else c k) :
    Rows E sk live (t + 1) b' c' where
  even k hk := by
    rw [hb' k hk, alpha]
    split
    · have hr : roll c k = prev1 (alpha E sk live t) (2 * k) * C := by
        unfold roll prev1
        rcases Nat.eq_zero_or_pos k with rfl | h0
        · rw [if_pos rfl, if_pos rfl, h.last, bot_mul_C]
        · rw [if_neg (by omega), if_neg (by omega), h.odd (k - 1) (by omega), show 2 * (k - 1) + 1 = 2 * k - 1 by omega]
      rw [next, if_neg (heven k), lse3_bot, h.even k hk, hr, ← heb k hk, stepB_scaled]
    · exact h.even k hk
  odd k hk := by
    rw [hc' k (by omega), alpha]
    split
    · have hb : b k = prev1 (alpha E sk live t) (2 * k + 1) * C := by
        rw [prev1, if_neg (by omega), h.even k (by omega)]; rfl
      have hr : (if skc k then roll c k else ⊥) = (if sk (2 * k + 1) then prev2 (alpha E sk live t) (2 * k + 1) else ⊥) * C := by
        unfold roll prev2
        rcases Nat.eq_zero_or_pos k with rfl | h0
        · simp [h.last, bot_mul_C]
        · by_cases hs : skc k
          · rw [if_pos hs, if_pos ((hskc k h0 hk).mp hs), if_neg (by omega), if_neg (by omega), h.odd (k - 1) (by omega),
              show 2 * (k - 1) + 1 = 2 * k + 1 - 2 by omega]
          · rw [if_neg hs, if_neg (fun h' => hs ((hskc k h0 hk).mpr h')), bot_mul_C]
      rw [next, hr, h.odd k hk, hb, hel k hk, stepC_scaled]
    · exact h.odd k hk
  last := by
    rw [hc' 383 (by omega), hel', stepC_bot, h.last, ite_self]

end

end Cert.Ctc

end
-- ==== Proof.Payloads.lean ====
/- What the kernel's stored and carried values are at an index: the rolled row, the two steps of the recursion, the
   start of the rows, the log-probabilities of a block and the block's result. -/
module

public import proofs.«01_k».proof.Proof.Alpha
public import proofs.«01_k».proof.Proof.Gen.KernelIdeal.Skeleton
public import Idealize.ShloMosaic.Lib.Pointwise
public import Idealize.ShloMosaic.PureOps.IdealRules

@[expose] public section

noncomputable section

namespace Cert.Ctc

open Idealize.ShloMosaic Cert.KernelIdeal Cert.KernelIdeal.Gen

/-- The name of one over the logarithm of two has that value. -/
theorem log2e_named : (Named.named κ "log2e" 0x3FB8AA3B#32 : Ideal .f32) = C :=
  IdealRules.named_const.ideal_named_scalar _ _ _ _ rfl

/-- The name of the mask has the value minus infinity. -/
theorem mask_named : (Named.named κ "mask" 0xF149F2CA#32 : Ideal .f32) = (⊥ : EReal) :=
  IdealRules.named_const.ideal_named_scalar _ _ _ _ rfl

/-- The name of the logarithm of two has that value. -/
theorem ln2_named : (Named.named κ "ln2" 0x3F317218#32 : Ideal .f32) = D :=
  IdealRules.named_const.ideal_named_scalar _ _ _ _ rfl

/-- Two small words are equal when their numbers are. -/
theorem cmpi_eq_ofNat {k M : ℕ} (hk : k < 2 ^ 32) (hM : M < 2 ^ 32) :
    IntOp.cmpi .eq (BitVec.ofNat 32 k) (BitVec.ofNat 32 M) = 1#1 ↔ k = M := by
  have e : IntOp.cmpi .eq (BitVec.ofNat 32 k) (BitVec.ofNat 32 M) = BitVec.ofBool (BitVec.ofNat 32 k == BitVec.ofNat 32 M) := rfl
  rw [e]
  by_cases h : k = M
  · simp [h]
  · have h' : BitVec.ofNat 32 k ≠ BitVec.ofNat 32 M := by
      intro hh
      have := congrArg BitVec.toNat hh
      simp only [BitVec.toNat_ofNat, Nat.mod_eq_of_lt hk, Nat.mod_eq_of_lt hM] at this
      exact h this
    have h2 : (BitVec.ofNat 32 k == BitVec.ofNat 32 M) = false := beq_eq_false_iff_ne.mpr h'
    rw [h2]
    simp [h]

/-- A sample's row of an array of 384 lanes, by the lane's number. -/
def row (x : S16x384.Idx → EReal) (b : Fin 16) (k : ℕ) : EReal := if h : k < 384 then x (ix2 b ⟨k, h⟩) else ⊥

theorem row_lt (x : S16x384.Idx → EReal) (b : Fin 16) {k : ℕ} (h : k < 384) : row x b k = x (ix2 b ⟨k, h⟩) := dif_pos h

theorem row_fin (x : S16x384.Idx → EReal) (b : Fin 16) (k : Fin 384) : row x b k.val = x (ix2 b k) := dif_pos k.isLt

/-- The array rolled by one lane, at an index. -/
theorem rolled (y : FVec Ideal S16x384 .f32) (b : Fin 16) (k : Fin 384) :
    dynamicRotate 1 1#32 none y rotates_S16x384_d1 (ix2 b k) = roll (row y b) k.val := by
  unfold roll
  pointwise
  by_cases h : k.val = 0
  · rw [if_pos h, row_lt y b (by decide : 383 < 384)]
    congr 2
    apply Fin.ext
    show (k.val + 384 - 1) % 384 = 383
    rw [h]
  · rw [if_neg h, row_lt y b (by omega : k.val - 1 < 384)]
    congr 2
    apply Fin.ext
    show (k.val + 384 - 1) % 384 = k.val - 1
    have := k.isLt
    omega

theorem pay89 (x y : FVec Ideal S16x384 .f32) (v : Vec Ideal S1x16x384 .f32) (b : Fin 16) (k : Fin 384) :
    k0_pay89 x y v (ix2 b k) = stepB (x (ix2 b k)) (roll (row y b) k.val) (v (ix3 0 b k)) := by
  rw [← rolled]
  unfold stepB
  pointwise [k0_pay89, k0_pay88, log2e_named]
  rfl

theorem pay94 (x y : Vec Ideal S16x384 .f32) (v : Vec Ideal S1x16x384 .f32) (b : Fin 16) (k : Fin 384) :
    k0_pay94 x y v (ix2 b k) = stepB (x (ix2 b k)) (roll (row y b) k.val) (v (ix3 0 b k)) := pay89 x y v b k

/-- The lanes that may be entered from the lane before, of the array that says so. -/
def skips (w : Vec Ideal S16x384 .i32) (b : Fin 16) (k : ℕ) : Prop := ∃ h : k < 384, w (ix2 b ⟨k, h⟩) ≠ 0#32

instance (w : Vec Ideal S16x384 .i32) (b : Fin 16) : DecidablePred (skips w b) := fun _ => Classical.propDecidable _

theorem pay84 (w : Vec Ideal S16x384 .i32) (b : Fin 16) (k : Fin 384) :
    k0_pay84 w (ix2 b k) = BitVec.ofBool (decide (skips w b k.val)) := by
  have hs : skips w b k.val ↔ w (ix2 b k) ≠ 0#32 := ⟨fun ⟨_, h⟩ => h, fun h => ⟨k.isLt, h⟩⟩
  have e : k0_pay84 w (ix2 b k) = BitVec.ofBool (w (ix2 b k) != 0#32) := by
    pointwise [k0_pay84]
    rfl
  rw [e]
  by_cases h : w (ix2 b k) = 0#32
  · have : ¬ skips w b k.val := fun h' => hs.mp h' h
    simp [h, this]
  · have h1 := hs.mpr h
    have h2 : (w (ix2 b k) != 0#32) = true := bne_iff_ne.mpr h
    simp [h1, h2]

theorem pay90 (w : Vec Ideal S16x384 .i32) (x y : FVec Ideal S16x384 .f32) (v : Vec Ideal S1x16x384 .f32) (b : Fin 16) (k : Fin 384) :
    k0_pay90 w x y v (ix2 b k)
      = stepC (y (ix2 b k)) (x (ix2 b k)) (if skips w b k.val then roll (row y b) k.val else ⊥) (v (ix3 0 b k)) := by
  have hs : select (k0_pay84 w) (k0_pay88 y) (broadcast S16x384 (⊥ : EReal)) (ix2 b k)
      = if skips w b k.val then roll (row y b) k.val else ⊥ := by
    rw [← rolled]
    show (if k0_pay84 w (ix2 b k) = 1#1 then _ else _) = _
    rw [pay84]
    by_cases h : skips w b k.val <;> simp [h, k0_pay88, broadcast]
  rw [← hs]
  unfold stepC
  simp only [k0_pay90, mask_named, log2e_named]
  pointwise
  rfl

theorem pay95 (w : Vec Ideal S16x384 .i32) (x y : Vec Ideal S16x384 .f32) (v : Vec Ideal S1x16x384 .f32) (b : Fin 16) (k : Fin 384) :
    k0_pay95 w x y v (ix2 b k)
      = stepC (y (ix2 b k)) (x (ix2 b k)) (if skips w b k.val then roll (row y b) k.val else ⊥) (v (ix3 0 b k)) :=
  pay90 w x y v b k

/-- The step of the even states where the mask is on, the old row where it is off. -/
theorem pay3 (a : BitVec 32) (n : IVec S16x1 32) (t : Fin k0_t3_loop.trips) (x y : Vec Ideal S16x384 .f32) (v : Vec Ideal S1x16x384 .f32)
    (b : Fin 16) (k : Fin 384) :
    k0_pay3 a n t x y v (ix2 b k)
      = if k0_pay2 a n t (ix2 b 0) = 1#1 then stepB (x (ix2 b k)) (roll (row y b) k.val) (v (ix3 0 b k)) else x (ix2 b k) := by
  rw [← pay89]
  have : k0_pay3 a n t x y v = select (broadcastTo S16x384 (shapeCast S16x1 (k0_pay2 a n t) shapeCasts_S16x1_S16x1)
    broadcasts_S16x1_S16x384) (k0_pay89 x y v) x := rfl
  rw [this]
  pointwise
  rfl

theorem pay4 (w : Vec Ideal S16x384 .i32) (a : BitVec 32) (n : IVec S16x1 32) (t : Fin k0_t3_loop.trips) (x y : Vec Ideal S16x384 .f32)
    (v : Vec Ideal S1x16x384 .f32) (b : Fin 16) (k : Fin 384) :
    k0_pay4 a (k0_pay84 w) n t x y v (ix2 b k)
      = if k0_pay2 a n t (ix2 b 0) = 1#1 then
          stepC (y (ix2 b k)) (x (ix2 b k)) (if skips w b k.val then roll (row y b) k.val else ⊥) (v (ix3 0 b k))
        else y (ix2 b k) := by
  rw [← pay90]
  have : k0_pay4 a (k0_pay84 w) n t x y v = select (broadcastTo S16x384 (shapeCast S16x1 (k0_pay2 a n t) shapeCasts_S16x1_S16x1)
    broadcasts_S16x1_S16x384) (k0_pay90 w x y v) y := rfl
  rw [this]
  pointwise
  rfl

/-- The start of a row: the first lane of the array given, nothing in the others. -/
theorem pay86 (v : Vec Ideal S1x16x384 .f32) (b : Fin 16) (k : Fin 384) :
    k0_pay86 v (ix2 b k) = if k.val = 0 then v (ix3 0 b k) else (⊥ : EReal) := by
  have e : k0_pay86 v (ix2 b k)
      = if IntOp.cmpi .eq (BitVec.ofNat 32 k.val) (BitVec.ofNat 32 0) = 1#1 then v (ix3 0 b k) else (⊥ : EReal) := by
    pointwise [k0_pay86, mask_named]
    rfl
  rw [e]
  have hk := k.isLt
  simp only [cmpi_eq_ofNat (show k.val < 2 ^ 32 by omega) (show 0 < 2 ^ 32 by omega)]

theorem pay87 (v : Vec Ideal S1x16x384 .f32) (b : Fin 16) (k : Fin 384) :
    k0_pay87 v (ix2 b k) = if k.val = 0 then v (ix3 0 b k) else (⊥ : EReal) := pay86 v b k

/-- The largest of a row of values. -/
def top {n : ℕ} (x : Fin n → EReal) : EReal := Finset.univ.fold max ⊥ x

/-- The logarithm of the softmax of a row of values. -/
def lsm (x : Fin 64 → EReal) (v : Fin 64) : EReal := (x v - top x) - Ideal.log (∑ u, Ideal.exp (x u - top x))

/-- The block's log-probabilities to base two: the natural ones scaled. -/
theorem pay26 (x : Vec Ideal S16x256x64 .f32) (b : Fin 16) (t : Fin 256) (v : Fin 64) :
    k0_pay26 x (ix3 b t v) = lsm (fun u => x (ix3 b t u)) v * C := by
  have e : k0_pay26 x (ix3 b t v)
      = (x (ix3 b t v) - top fun u => x (ix3 b t u)) * C
        - Ideal.log (∑ u, Ideal.exp2 ((x (ix3 b t u) - top fun u => x (ix3 b t u)) * C)) * C := by
    unfold top
    pointwise [k0_pay26, log2e_named]
    rfl
  simp only [exp2_mul_C] at e
  rw [e, lsm, ← sub_mul_C]

/-- The largest of a row that holds one value and nothing else. -/
theorem top_single {n : ℕ} (x : Fin n → EReal) (j : Fin n) (h : ∀ k, k ≠ j → x k = ⊥) : top x = x j := by
  unfold top
  apply le_antisymm
  · rw [Finset.fold_max_le]
    refine ⟨bot_le, fun k _ => ?_⟩
    by_cases hk : k = j
    · rw [hk]
    · rw [h k hk]; exact bot_le
  · rw [Finset.le_fold_max]
    exact Or.inr ⟨j, Finset.mem_univ j, le_rfl⟩

/-- The block's result: minus the log of the two end states' sum, in every lane. -/
theorem pay7 (x y : Vec Ideal S16x384 .f32) (n : Vec Ideal S16x1 .i32) (b : Fin 16) (l : Fin 128) (N : ℕ) (hN : 1 ≤ N) (hN' : N ≤ 256)
    (hn : n (ix2 b 0) = BitVec.ofNat 32 N) :
    k0_pay7 x y n (ix2 b l) = (0 - lse2C (row x b N) (row y b (N - 1))) * D := by
  have e : k0_pay7 x y n (ix2 b l)
      = (0 - lse2C (top fun k : Fin 384 => if IntOp.cmpi .eq (BitVec.ofNat 32 k.val) (n (ix2 b 0)) = 1#1 then x (ix2 b k) else ⊥)
        (top fun k : Fin 384 => if IntOp.cmpi .eq (BitVec.ofNat 32 k.val) (n (ix2 b 0) - 1#32) = 1#1 then y (ix2 b k) else ⊥)) * D := by
    unfold top lse2C
    pointwise [k0_pay7, log2e_named, mask_named, ln2_named]
    rfl
  rw [e, hn]
  have h1 : (BitVec.ofNat 32 N - 1#32 : BitVec 32) = BitVec.ofNat 32 (N - 1) := by
    apply BitVec.eq_of_toNat_eq
    simp only [BitVec.toNat_sub, BitVec.toNat_ofNat]
    omega
  rw [h1]
  have key : ∀ (z : S16x384.Idx → EReal) (M : ℕ), M < 384 →
      (top fun k : Fin 384 => if IntOp.cmpi .eq (BitVec.ofNat 32 k.val) (BitVec.ofNat 32 M) = 1#1 then z (ix2 b k) else ⊥) = row z b M := by
    intro z M hM
    have hiff : ∀ k : Fin 384, IntOp.cmpi .eq (BitVec.ofNat 32 k.val) (BitVec.ofNat 32 M) = 1#1 ↔ k.val = M := by
      intro k
      have := k.isLt
      exact cmpi_eq_ofNat (by omega) (by omega)
    rw [top_single _ ⟨M, hM⟩, if_pos ((hiff ⟨M, hM⟩).mpr rfl), row_lt z b hM]
    intro k hk
    rw [if_neg]
    intro h
    exact hk (Fin.ext ((hiff k).mp h))
  rw [key x N (by omega), key y (N - 1) (by omega)]

end Cert.Ctc

end
-- ==== Proof.Tables.lean ====
/- The two tables a point of the grid builds before its steps, read back from the stores that build them: the
   log-probability of every target at every time step of the block, and that of the blank in every lane. -/
module

public import proofs.«01_k».proof.Proof.Payloads
public import Idealize.ShloMosaic.Lib.Pipeline.ValueKit
public import Idealize.ShloMosaic.Lib.Pipeline.ReadBack

@[expose] public section

set_option maxRecDepth 16384

noncomputable section

namespace Cert.Ctc

open Idealize.ShloMosaic Cert.KernelIdeal Cert.KernelIdeal.Gen

/-- The table of the targets: a block's log-probabilities times the targets' one-hot columns, nothing past them. -/
def elT (lp : S16x256x64.Idx → EReal) (oh : S16x64x256.Idx → EReal) (y : S256x16x384.Idx) : EReal :=
  if h : (y 2).val < 256 then ∑ v : Fin 64, lp (ix3 (y 1) (y 0) v) * oh (ix3 (y 1) v ⟨(y 2).val, h⟩) else ⊥

/-- The table of the blank. -/
def ebT (lp : S16x256x64.Idx → EReal) (y : S256x16x384.Idx) : EReal := lp (ix3 (y 1) (y 0) 0)

/-- The array of one-hot columns of a block of targets. -/
def ohT (tg : S16x256.Idx → BitVec 32) (y : S16x64x256.Idx) : EReal :=
  if tg (ix2 (y 0) (y 2)) = BitVec.ofNat 32 (y 1).val then 1 else 0

theorem piece_el (lp : S16x256x64.Idx → EReal) (oh : S16x64x256.Idx → EReal) (b : Fin 16)
    (inb : ∀ a, (![0, b.val, 0] : Fin 3 → ℕ) a + S256x1x256.size a ≤ S256x16x384.size a) (w : S256x1x256.Idx → EReal)
    (h : ∀ (t : Fin 256) (k : Fin 256), w (ix3 t 0 k) = ∑ v : Fin 64, lp (ix3 b t v) * oh (ix3 b v k)) (x : S256x1x256.Idx) :
    w x = elT lp oh ((Rect.unit (s := S256x16x384) ![0, b.val, 0] S256x1x256.size inb).emb x) := by
  obtain ⟨t, z, k, rfl⟩ : ∃ (t : Fin 256) (z : Fin 1) (k : Fin 256), x = ix3 t z k := ⟨x 0, x 1, x 2, eq_ix3 x⟩
  obtain rfl : z = 0 := Subsingleton.elim _ _
  rw [h]
  have e0 : (Rect.unit (s := S256x16x384) ![0, b.val, 0] S256x1x256.size inb).emb (ix3 t 0 k) 0 = t :=
    Fin.ext (by rw [Rect.emb_apply]; show 0 + 1 * t.val = t.val; omega)
  have e1 : (Rect.unit (s := S256x16x384) ![0, b.val, 0] S256x1x256.size inb).emb (ix3 t 0 k) 1 = b :=
    Fin.ext (by rw [Rect.emb_apply]; show b.val + 1 * 0 = b.val; omega)
  have e2 : ((Rect.unit (s := S256x16x384) ![0, b.val, 0] S256x1x256.size inb).emb (ix3 t 0 k) 2).val = k.val := by
    rw [Rect.emb_apply]; show 0 + 1 * k.val = k.val; omega
  unfold elT
  rw [dif_pos (by rw [e2]; exact k.isLt), e0, e1]
  simp only [e2]

theorem piece_mask (lp : S16x256x64.Idx → EReal) (oh : S16x64x256.Idx → EReal) (b : Fin 16)
    (inb : ∀ a, (![0, b.val, 256] : Fin 3 → ℕ) a + S256x1x128.size a ≤ S256x16x384.size a) (w : S256x1x128.Idx → EReal)
    (h : ∀ (t : Fin 256) (k : Fin 128), w (ix3 t 0 k) = ⊥) (x : S256x1x128.Idx) :
    w x = elT lp oh ((Rect.unit (s := S256x16x384) ![0, b.val, 256] S256x1x128.size inb).emb x) := by
  obtain ⟨t, z, k, rfl⟩ : ∃ (t : Fin 256) (z : Fin 1) (k : Fin 128), x = ix3 t z k := ⟨x 0, x 1, x 2, eq_ix3 x⟩
  obtain rfl : z = 0 := Subsingleton.elim _ _
  rw [h]
  have e2 : ((Rect.unit (s := S256x16x384) ![0, b.val, 256] S256x1x128.size inb).emb (ix3 t 0 k) 2).val = 256 + k.val := by
    rw [Rect.emb_apply]; show 256 + 1 * k.val = 256 + k.val; omega
  unfold elT
  rw [dif_neg (by rw [e2]; omega)]

theorem piece_eb (lp : S16x256x64.Idx → EReal) (b : Fin 16)
    (inb : ∀ a, (![0, b.val, 0] : Fin 3 → ℕ) a + S256x1x384.size a ≤ S256x16x384.size a) (w : S256x1x384.Idx → EReal)
    (h : ∀ (t : Fin 256) (k : Fin 384), w (ix3 t 0 k) = lp (ix3 b t 0)) (x : S256x1x384.Idx) :
    w x = ebT lp ((Rect.unit (s := S256x16x384) ![0, b.val, 0] S256x1x384.size inb).emb x) := by
  obtain ⟨t, z, k, rfl⟩ : ∃ (t : Fin 256) (z : Fin 1) (k : Fin 384), x = ix3 t z k := ⟨x 0, x 1, x 2, eq_ix3 x⟩
  obtain rfl : z = 0 := Subsingleton.elim _ _
  rw [h]
  have e0 : (Rect.unit (s := S256x16x384) ![0, b.val, 0] S256x1x384.size inb).emb (ix3 t 0 k) 0 = t :=
    Fin.ext (by rw [Rect.emb_apply]; show 0 + 1 * t.val = t.val; omega)
  have e1 : (Rect.unit (s := S256x16x384) ![0, b.val, 0] S256x1x384.size inb).emb (ix3 t 0 k) 1 = b :=
    Fin.ext (by rw [Rect.emb_apply]; show b.val + 1 * 0 = b.val; omega)
  unfold ebT
  rw [e0, e1]

theorem piece_oh (tg : S16x256.Idx → BitVec 32) (b : Fin 16)
    (inb : ∀ a, (![b.val, 0, 0] : Fin 3 → ℕ) a + S1x64x256.size a ≤ S16x64x256.size a) (w : S1x64x256.Idx → EReal)
    (h : ∀ (v : Fin 64) (k : Fin 256), w (ix3 0 v k) = if tg (ix2 b k) = BitVec.ofNat 32 v.val then 1 else 0) (x : S1x64x256.Idx) :
    w x = ohT tg ((Rect.unit (s := S16x64x256) ![b.val, 0, 0] S1x64x256.size inb).emb x) := by
  obtain ⟨z, v, k, rfl⟩ : ∃ (z : Fin 1) (v : Fin 64) (k : Fin 256), x = ix3 z v k := ⟨x 0, x 1, x 2, eq_ix3 x⟩
  obtain rfl : z = 0 := Subsingleton.elim _ _
  rw [h]
  have e0 : (Rect.unit (s := S16x64x256) ![b.val, 0, 0] S1x64x256.size inb).emb (ix3 0 v k) 0 = b :=
    Fin.ext (by rw [Rect.emb_apply]; show b.val + 1 * 0 = b.val; omega)
  have e1 : (Rect.unit (s := S16x64x256) ![b.val, 0, 0] S1x64x256.size inb).emb (ix3 0 v k) 1 = v :=
    Fin.ext (by rw [Rect.emb_apply]; show 0 + 1 * v.val = v.val; omega)
  have e2 : (Rect.unit (s := S16x64x256) ![b.val, 0, 0] S1x64x256.size inb).emb (ix3 0 v k) 2 = k :=
    Fin.ext (by rw [Rect.emb_apply]; show 0 + 1 * k.val = k.val; omega)
  unfold ohT
  rw [e0, e1, e2]

/-- Whether the rectangles of a list of stores, each of one sample and all the time steps, hold every third of every row. -/
def coversT (L : List (View.Piece (Elt Ideal) S256x16x384 .f32)) : Bool :=
  decide (∀ (b : Fin 16) (q : Fin 3), ∃ p ∈ L, (∀ a, p.1.stride a = 1) ∧ (p.1.off 0 = 0 ∧ p.1.size 0 = 256)
    ∧ (p.1.off 1 = b.val ∧ p.1.size 1 = 1) ∧ p.1.off 2 ≤ 128 * q.val ∧ 128 * q.val + 128 ≤ p.1.off 2 + p.1.size 2)

theorem cover_of_coversT (L : List (View.Piece (Elt Ideal) S256x16x384 .f32)) (h : coversT L = true) (y : S256x16x384.Idx) :
    ∃ p ∈ L, y ∈ p.1.set := by
  have h0 : (y 0).val < 256 := (y 0).isLt
  have h2 : (y 2).val < 384 := (y 2).isLt
  obtain ⟨p, hp, hs, ⟨o0, s0⟩, ⟨o1, s1⟩, hl, hr⟩ := of_decide_eq_true h (y 1) ⟨(y 2).val / 128, by omega⟩
  refine ⟨p, hp, p.1.mem_set.mpr fun a => ?_⟩
  simp only at hl hr
  match a with
  | ⟨0, _⟩ => exact ⟨(y 0).val, by rw [show p.1.size ⟨0, _⟩ = 256 from s0]; exact h0, by
      rw [show p.1.off ⟨0, _⟩ = 0 from o0, hs]; show (y 0).val = _; omega⟩
  | ⟨1, _⟩ => exact ⟨0, by rw [show p.1.size ⟨1, _⟩ = 1 from s1]; omega, by
      rw [show p.1.off ⟨1, _⟩ = (y 1).val from o1, hs]; show (y 1).val = _; omega⟩
  | ⟨2, _⟩ => exact ⟨(y 2).val - p.1.off 2, by show _ < p.1.size 2; omega, by
      rw [hs]; show (y 2).val = p.1.off 2 + 1 * ((y 2).val - p.1.off 2); omega⟩

/-- A buffer of stores that are blocks of one function, which cover it, reads that function through any box. -/
theorem reads_of_pieces {sig : RefSig} {κ : Kind} {sp : Space} {s : Shape} (v : View sig κ sp s .f32) (G : s.Idx → EReal)
    (L : List (View.Piece (Elt Ideal) s .f32)) (hL : View.PiecesOf (Val := Elt Ideal) (e := .f32) G L) (hc : ∀ y, ∃ p ∈ L, y ∈ p.1.set) (B : LoadRect s) :
    v.readAt (Elt Ideal) B (v.writes (Elt Ideal) v.junk L) = fun j => G (B.idx j) := by
  rw [View.readAt_writes_junk_eq_canon]
  funext j
  exact View.canon_apply_of_pieces G L hL.mem _ (hc _)

end Cert.Ctc

end
-- ==== Proof.Blocks.lean ====
/- The four payloads a point stores for one sample: the log-probabilities of its targets, the filler past them, the
   log-probability of the blank, and the one-hot columns of its targets. -/
module

public import proofs.«01_k».proof.Proof.Tables

@[expose] public section

set_option maxRecDepth 16384

noncomputable section

namespace Cert.Ctc

open Idealize.ShloMosaic Cert.KernelIdeal Cert.KernelIdeal.Gen
open Idealize.ShloMosaic.TcCoe Idealize.SL.Sem

def elP (b : Fin 16) (hs : S16x256x64.Slices ![b.val, 0, 0] S1x256x64) (lp : FVec Ideal S16x256x64 .f32)
    (w : Vec Ideal S1x64x256 .f32) : FVec Ideal S256x1x256 .f32 :=
  shapeCast S256x1x256 (matmul dot_S256x64_S64x256_S256x256_1_0_0_1_n_n none
    (shapeCast S256x64 (extractStridedSlice S1x256x64 ![b.val, 0, 0] lp hs) shapeCasts_S1x256x64_S256x64)
    ((shapeCast S64x256 w shapeCasts_S1x64x256_S64x256 : FVec Ideal S64x256 .f32)) (constant S256x256 .f32 0x00000000#32)) shapeCasts_S256x256_S256x1x256

theorem elP_apply (b : Fin 16) (hs : S16x256x64.Slices ![b.val, 0, 0] S1x256x64) (lp : FVec Ideal S16x256x64 .f32)
    (w : Vec Ideal S1x64x256 .f32) (t k : Fin 256) :
    elP b hs lp w (ix3 t 0 k) = ∑ v : Fin 64, lp (ix3 b t v) * w (ix3 0 v k) := by
  pointwise [elP]

def ebP (b : Fin 16) (hs : S16x256x64.Slices ![b.val, 0, 0] S1x256x64) (lp : FVec Ideal S16x256x64 .f32) : FVec Ideal S256x1x384 .f32 :=
  shapeCast S256x1x384 (broadcastTo S256x384 (shapeCast S256x1 (extractStridedSlice S256x1 ![0, 0]
    (shapeCast S256x64 (extractStridedSlice S1x256x64 ![b.val, 0, 0] lp hs) shapeCasts_S1x256x64_S256x64)
    slices_S256x64_o0_0_S256x1) shapeCasts_S256x1_S256x1) broadcasts_S256x1_S256x384) shapeCasts_S256x384_S256x1x384

theorem ebP_apply (b : Fin 16) (hs : S16x256x64.Slices ![b.val, 0, 0] S1x256x64) (lp : FVec Ideal S16x256x64 .f32)
    (t : Fin 256) (k : Fin 384) : ebP b hs lp (ix3 t 0 k) = lp (ix3 b t 0) := by
  pointwise [ebP]

def mkP : FVec Ideal S256x1x128 .f32 :=
  shapeCast S256x1x128 (broadcast S256x128 (Named.named κ "mask" 0xF149F2CA#32 : Ideal .f32)) shapeCasts_S256x128_S256x1x128

theorem mkP_apply (t : Fin 256) (k : Fin 128) : mkP (ix3 t 0 k) = ⊥ := by
  pointwise [mkP]
  exact mask_named

def ohP (w : Vec Ideal S1x256 .i32) : FVec Ideal S1x64x256 .f32 :=
  shapeCast S1x64x256 (sitofp (F := Ideal) .f32 (extui 32 (cmpi .eq (iota .tc S64x256 32 [0] iota_S64x256_d0_w32)
    (broadcastTo S64x256 w broadcasts_S1x256_S64x256)) natLt_1_32)) shapeCasts_S64x256_S1x64x256

theorem sitofp_cmpi_eq (x y : BitVec 32) :
    FloatOps.sitofp (F := Ideal) FTy.f32 (BitVec.setWidth 32 (IntOp.cmpi .eq x y)) = if y = x then (1 : EReal) else 0 := by
  by_cases h : y = x
  · subst h
    rw [if_pos rfl]
    have : IntOp.cmpi .eq y y = 1#1 := by simp [IntOp.cmpi]
    rw [this]
    show ((((BitVec.setWidth 32 1#1).toInt : ℝ)) : EReal) = 1
    norm_num
  · rw [if_neg h]
    have : IntOp.cmpi .eq x y = 0#1 := by
      show BitVec.ofBool (x == y) = 0#1
      rw [beq_eq_false_iff_ne.mpr (Ne.symm h)]
      rfl
    rw [this]
    show ((((BitVec.setWidth 32 0#1).toInt : ℝ)) : EReal) = 0
    norm_num

theorem ohP_apply (w : Vec Ideal S1x256 .i32) (v : Fin 64) (k : Fin 256) :
    ohP w (ix3 0 v k) = if w (ix2 0 k) = BitVec.ofNat 32 v.val then 1 else 0 := by
  pointwise [ohP]
  exact sitofp_cmpi_eq _ _

theorem block_el (lp : S16x256x64.Idx → EReal) (oh : S16x64x256.Idx → EReal) (b : Fin 16)
    (inb : ∀ a, (![0, b.val, 0] : Fin 3 → ℕ) a + S256x1x256.size a ≤ S256x16x384.size a)
    (hs : S16x256x64.Slices ![b.val, 0, 0] S1x256x64) (w : S1x64x256.Idx → EReal)
    (hw : ∀ v k, w (ix3 0 v k) = oh (ix3 b v k)) (x : S256x1x256.Idx) :
    elP b hs lp w x = elT lp oh ((Rect.unit (s := S256x16x384) ![0, b.val, 0] S256x1x256.size inb).emb x) :=
  piece_el lp oh b inb _ (fun t k => (elP_apply b hs lp w t k).trans (Finset.sum_congr rfl fun v _ => by rw [hw])) x

theorem block_mk (lp : S16x256x64.Idx → EReal) (oh : S16x64x256.Idx → EReal) (b : Fin 16)
    (inb : ∀ a, (![0, b.val, 256] : Fin 3 → ℕ) a + S256x1x128.size a ≤ S256x16x384.size a) (x : S256x1x128.Idx) :
    mkP x = elT lp oh ((Rect.unit (s := S256x16x384) ![0, b.val, 256] S256x1x128.size inb).emb x) :=
  piece_mask lp oh b inb _ mkP_apply x

theorem block_eb (lp : S16x256x64.Idx → EReal) (b : Fin 16)
    (inb : ∀ a, (![0, b.val, 0] : Fin 3 → ℕ) a + S256x1x384.size a ≤ S256x16x384.size a)
    (hs : S16x256x64.Slices ![b.val, 0, 0] S1x256x64) (x : S256x1x384.Idx) :
    ebP b hs lp x = ebT lp ((Rect.unit (s := S256x16x384) ![0, b.val, 0] S256x1x384.size inb).emb x) :=
  piece_eb lp b inb _ (ebP_apply b hs lp) x

theorem block_oh (tg : S16x256.Idx → BitVec 32) (b : Fin 16)
    (inb : ∀ a, (![b.val, 0, 0] : Fin 3 → ℕ) a + S1x64x256.size a ≤ S16x64x256.size a) (w : Vec Ideal S1x256 .i32)
    (hw : ∀ k, w (ix2 0 k) = tg (ix2 b k)) (x : S1x64x256.Idx) :
    ohP w x = ohT tg ((Rect.unit (s := S16x64x256) ![b.val, 0, 0] S1x64x256.size inb).emb x) :=
  piece_oh tg b inb _ (fun v k => by rw [ohP_apply, hw]) x

/-- The load of one sample's columns. -/
theorem load_oh (oh : S16x64x256.Idx → EReal) (b : Fin 16)
    (inb : ∀ a, (![b.val, 0, 0] : Fin 3 → ℕ) a + S1x64x256.size a ≤ S16x64x256.size a) (v : Fin 64) (k : Fin 256) :
    oh ((Rect.unit (s := S16x64x256) ![b.val, 0, 0] S1x64x256.size inb).toLoadRect.idx (ix3 0 v k)) = oh (ix3 b v k) := by
  congr 1
  funext a
  match a with
  | ⟨0, _⟩ => exact Fin.ext (by show b.val + 1 * 0 = b.val; omega)
  | ⟨1, _⟩ => exact Fin.ext (by show 0 + 1 * v.val = v.val; omega)
  | ⟨2, _⟩ => exact Fin.ext (by show 0 + 1 * k.val = k.val; omega)

/-- The load of one sample's targets. -/
theorem load_tg (tg : S16x256.Idx → BitVec 32) (b : Fin 16)
    (inb : ∀ a, (![b.val, 0] : Fin 2 → ℕ) a + S1x256.size a ≤ S16x256.size a) (k : Fin 256) :
    tg ((Rect.unit (s := S16x256) ![b.val, 0] S1x256.size inb).toLoadRect.idx (ix2 0 k)) = tg (ix2 b k) := by
  congr 1
  funext a
  match a with
  | ⟨0, _⟩ => exact Fin.ext (by show b.val + 1 * 0 = b.val; omega)
  | ⟨1, _⟩ => exact Fin.ext (by show 0 + 1 * k.val = k.val; omega)

end Cert.Ctc

end
-- ==== Proof.Points.lean ====
/- What one point of the grid leaves in the carried rows: the loop's pair over the two tables the point built. -/
module

public import proofs.«01_k».proof.Proof.Blocks
public import proofs.«01_k».proof.Proof.Gen.KernelIdeal.Frame
public import Idealize.ShloMosaic.Lib.Tactic

@[expose] public section

set_option maxRecDepth 65536

noncomputable section

namespace Cert.Ctc

open Idealize.ShloMosaic Cert.KernelIdeal Cert.KernelIdeal.Gen
open Idealize.ShloMosaic.TcCoe Idealize.SL.Sem

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

/-- A buffer whose loads, through any box, are those of one function. -/
def Holds (a : Memref sig .tc .vmem S256x16x384 .f32) (X : a.view.ty.Contents (Elt Ideal)) (G : S256x16x384.Idx → EReal) : Prop :=
  ∀ B : LoadRect S256x16x384, a.view.readAt (Elt Ideal) B X = fun j => G (B.idx j)

/-- The stores of the targets' table, the last first. -/
def elL (lp : FVec Ideal S16x256x64 .f32) (w : Fin 16 → Vec Ideal S1x64x256 .f32) : List (View.Piece (Elt Ideal) S256x16x384 .f32) :=
  [⟨Rect.unit ![0, 15, 256] S256x1x128.size inb_S256x16x384_S256x1x128_0_15_256, mkP⟩,
   ⟨Rect.unit ![0, 15, 0] S256x1x256.size inb_S256x16x384_S256x1x256_0_15_0, elP 15 slices_S16x256x64_o15_0_0_S1x256x64 lp (w 15)⟩,
   ⟨Rect.unit ![0, 14, 256] S256x1x128.size inb_S256x16x384_S256x1x128_0_14_256, mkP⟩,
   ⟨Rect.unit ![0, 14, 0] S256x1x256.size inb_S256x16x384_S256x1x256_0_14_0, elP 14 slices_S16x256x64_o14_0_0_S1x256x64 lp (w 14)⟩,
   ⟨Rect.unit ![0, 13, 256] S256x1x128.size inb_S256x16x384_S256x1x128_0_13_256, mkP⟩,
   ⟨Rect.unit ![0, 13, 0] S256x1x256.size inb_S256x16x384_S256x1x256_0_13_0, elP 13 slices_S16x256x64_o13_0_0_S1x256x64 lp (w 13)⟩,
   ⟨Rect.unit ![0, 12, 256] S256x1x128.size inb_S256x16x384_S256x1x128_0_12_256, mkP⟩,
   ⟨Rect.unit ![0, 12, 0] S256x1x256.size inb_S256x16x384_S256x1x256_0_12_0, elP 12 slices_S16x256x64_o12_0_0_S1x256x64 lp (w 12)⟩,
   ⟨Rect.unit ![0, 11, 256] S256x1x128.size inb_S256x16x384_S256x1x128_0_11_256, mkP⟩,
   ⟨Rect.unit ![0, 11, 0] S256x1x256.size inb_S256x16x384_S256x1x256_0_11_0, elP 11 slices_S16x256x64_o11_0_0_S1x256x64 lp (w 11)⟩,
   ⟨Rect.unit ![0, 10, 256] S256x1x128.size inb_S256x16x384_S256x1x128_0_10_256, mkP⟩,
   ⟨Rect.unit ![0, 10, 0] S256x1x256.size inb_S256x16x384_S256x1x256_0_10_0, elP 10 slices_S16x256x64_o10_0_0_S1x256x64 lp (w 10)⟩,
   ⟨Rect.unit ![0, 9, 256] S256x1x128.size inb_S256x16x384_S256x1x128_0_9_256, mkP⟩,
   ⟨Rect.unit ![0, 9, 0] S256x1x256.size inb_S256x16x384_S256x1x256_0_9_0, elP 9 slices_S16x256x64_o9_0_0_S1x256x64 lp (w 9)⟩,
   ⟨Rect.unit ![0, 8, 256] S256x1x128.size inb_S256x16x384_S256x1x128_0_8_256, mkP⟩,
   ⟨Rect.unit ![0, 8, 0] S256x1x256.size inb_S256x16x384_S256x1x256_0_8_0, elP 8 slices_S16x256x64_o8_0_0_S1x256x64 lp (w 8)⟩,
   ⟨Rect.unit ![0, 7, 256] S256x1x128.size inb_S256x16x384_S256x1x128_0_7_256, mkP⟩,
   ⟨Rect.unit ![0, 7, 0] S256x1x256.size inb_S256x16x384_S256x1x256_0_7_0, elP 7 slices_S16x256x64_o7_0_0_S1x256x64 lp (w 7)⟩,
   ⟨Rect.unit ![0, 6, 256] S256x1x128.size inb_S256x16x384_S256x1x128_0_6_256, mkP⟩,
   ⟨Rect.unit ![0, 6, 0] S256x1x256.size inb_S256x16x384_S256x1x256_0_6_0, elP 6 slices_S16x256x64_o6_0_0_S1x256x64 lp (w 6)⟩,
   ⟨Rect.unit ![0, 5, 256] S256x1x128.size inb_S256x16x384_S256x1x128_0_5_256, mkP⟩,
   ⟨Rect.unit ![0, 5, 0] S256x1x256.size inb_S256x16x384_S256x1x256_0_5_0, elP 5 slices_S16x256x64_o5_0_0_S1x256x64 lp (w 5)⟩,
   ⟨Rect.unit ![0, 4, 256] S256x1x128.size inb_S256x16x384_S256x1x128_0_4_256, mkP⟩,
   ⟨Rect.unit ![0, 4, 0] S256x1x256.size inb_S256x16x384_S256x1x256_0_4_0, elP 4 slices_S16x256x64_o4_0_0_S1x256x64 lp (w 4)⟩,
   ⟨Rect.unit ![0, 3, 256] S256x1x128.size inb_S256x16x384_S256x1x128_0_3_256, mkP⟩,
   ⟨Rect.unit ![0, 3, 0] S256x1x256.size inb_S256x16x384_S256x1x256_0_3_0, elP 3 slices_S16x256x64_o3_0_0_S1x256x64 lp (w 3)⟩,
   ⟨Rect.unit ![0, 2, 256] S256x1x128.size inb_S256x16x384_S256x1x128_0_2_256, mkP⟩,
   ⟨Rect.unit ![0, 2, 0] S256x1x256.size inb_S256x16x384_S256x1x256_0_2_0, elP 2 slices_S16x256x64_o2_0_0_S1x256x64 lp (w 2)⟩,
   ⟨Rect.unit ![0, 1, 256] S256x1x128.size inb_S256x16x384_S256x1x128_0_1_256, mkP⟩,
   ⟨Rect.unit ![0, 1, 0] S256x1x256.size inb_S256x16x384_S256x1x256_0_1_0, elP 1 slices_S16x256x64_o1_0_0_S1x256x64 lp (w 1)⟩,
   ⟨Rect.unit ![0, 0, 256] S256x1x128.size inb_S256x16x384_S256x1x128_0_0_256, mkP⟩,
   ⟨Rect.unit ![0, 0, 0] S256x1x256.size inb_S256x16x384_S256x1x256_0_0_0, elP 0 slices_S16x256x64_o0_0_0_S1x256x64 lp (w 0)⟩]

/-- The stores of the blank's table, the last first. -/
def ebL (lp : FVec Ideal S16x256x64 .f32) : List (View.Piece (Elt Ideal) S256x16x384 .f32) :=
  [⟨Rect.unit ![0, 15, 0] S256x1x384.size inb_S256x16x384_S256x1x384_0_15_0, ebP 15 slices_S16x256x64_o15_0_0_S1x256x64 lp⟩,
   ⟨Rect.unit ![0, 14, 0] S256x1x384.size inb_S256x16x384_S256x1x384_0_14_0, ebP 14 slices_S16x256x64_o14_0_0_S1x256x64 lp⟩,
   ⟨Rect.unit ![0, 13, 0] S256x1x384.size inb_S256x16x384_S256x1x384_0_13_0, ebP 13 slices_S16x256x64_o13_0_0_S1x256x64 lp⟩,
   ⟨Rect.unit ![0, 12, 0] S256x1x384.size inb_S256x16x384_S256x1x384_0_12_0, ebP 12 slices_S16x256x64_o12_0_0_S1x256x64 lp⟩,
   ⟨Rect.unit ![0, 11, 0] S256x1x384.size inb_S256x16x384_S256x1x384_0_11_0, ebP 11 slices_S16x256x64_o11_0_0_S1x256x64 lp⟩,
   ⟨Rect.unit ![0, 10, 0] S256x1x384.size inb_S256x16x384_S256x1x384_0_10_0, ebP 10 slices_S16x256x64_o10_0_0_S1x256x64 lp⟩,
   ⟨Rect.unit ![0, 9, 0] S256x1x384.size inb_S256x16x384_S256x1x384_0_9_0, ebP 9 slices_S16x256x64_o9_0_0_S1x256x64 lp⟩,
   ⟨Rect.unit ![0, 8, 0] S256x1x384.size inb_S256x16x384_S256x1x384_0_8_0, ebP 8 slices_S16x256x64_o8_0_0_S1x256x64 lp⟩,
   ⟨Rect.unit ![0, 7, 0] S256x1x384.size inb_S256x16x384_S256x1x384_0_7_0, ebP 7 slices_S16x256x64_o7_0_0_S1x256x64 lp⟩,
   ⟨Rect.unit ![0, 6, 0] S256x1x384.size inb_S256x16x384_S256x1x384_0_6_0, ebP 6 slices_S16x256x64_o6_0_0_S1x256x64 lp⟩,
   ⟨Rect.unit ![0, 5, 0] S256x1x384.size inb_S256x16x384_S256x1x384_0_5_0, ebP 5 slices_S16x256x64_o5_0_0_S1x256x64 lp⟩,
   ⟨Rect.unit ![0, 4, 0] S256x1x384.size inb_S256x16x384_S256x1x384_0_4_0, ebP 4 slices_S16x256x64_o4_0_0_S1x256x64 lp⟩,
   ⟨Rect.unit ![0, 3, 0] S256x1x384.size inb_S256x16x384_S256x1x384_0_3_0, ebP 3 slices_S16x256x64_o3_0_0_S1x256x64 lp⟩,
   ⟨Rect.unit ![0, 2, 0] S256x1x384.size inb_S256x16x384_S256x1x384_0_2_0, ebP 2 slices_S16x256x64_o2_0_0_S1x256x64 lp⟩,
   ⟨Rect.unit ![0, 1, 0] S256x1x384.size inb_S256x16x384_S256x1x384_0_1_0, ebP 1 slices_S16x256x64_o1_0_0_S1x256x64 lp⟩,
   ⟨Rect.unit ![0, 0, 0] S256x1x384.size inb_S256x16x384_S256x1x384_0_0_0, ebP 0 slices_S16x256x64_o0_0_0_S1x256x64 lp⟩]

/-- The stores of the one-hot columns, the last first. -/
def ohL (tg : Vec Ideal S16x256 .i32) : List (View.Piece (Elt Ideal) S16x64x256 .f32) :=
  [⟨Rect.unit ![15, 0, 0] S1x64x256.size inb_S16x64x256_S1x64x256_15_0_0, ohP (View.ld tg (Rect.unit ![15, 0] S1x256.size inb_S16x256_S1x256_15_0))⟩,
   ⟨Rect.unit ![14, 0, 0] S1x64x256.size inb_S16x64x256_S1x64x256_14_0_0, ohP (View.ld tg (Rect.unit ![14, 0] S1x256.size inb_S16x256_S1x256_14_0))⟩,
   ⟨Rect.unit ![13, 0, 0] S1x64x256.size inb_S16x64x256_S1x64x256_13_0_0, ohP (View.ld tg (Rect.unit ![13, 0] S1x256.size inb_S16x256_S1x256_13_0))⟩,
   ⟨Rect.unit ![12, 0, 0] S1x64x256.size inb_S16x64x256_S1x64x256_12_0_0, ohP (View.ld tg (Rect.unit ![12, 0] S1x256.size inb_S16x256_S1x256_12_0))⟩,
   ⟨Rect.unit ![11, 0, 0] S1x64x256.size inb_S16x64x256_S1x64x256_11_0_0, ohP (View.ld tg (Rect.unit ![11, 0] S1x256.size inb_S16x256_S1x256_11_0))⟩,
   ⟨Rect.unit ![10, 0, 0] S1x64x256.size inb_S16x64x256_S1x64x256_10_0_0, ohP (View.ld tg (Rect.unit ![10, 0] S1x256.size inb_S16x256_S1x256_10_0))⟩,
   ⟨Rect.unit ![9, 0, 0] S1x64x256.size inb_S16x64x256_S1x64x256_9_0_0, ohP (View.ld tg (Rect.unit ![9, 0] S1x256.size inb_S16x256_S1x256_9_0))⟩,
   ⟨Rect.unit ![8, 0, 0] S1x64x256.size inb_S16x64x256_S1x64x256_8_0_0, ohP (View.ld tg (Rect.unit ![8, 0] S1x256.size inb_S16x256_S1x256_8_0))⟩,
   ⟨Rect.unit ![7, 0, 0] S1x64x256.size inb_S16x64x256_S1x64x256_7_0_0, ohP (View.ld tg (Rect.unit ![7, 0] S1x256.size inb_S16x256_S1x256_7_0))⟩,
   ⟨Rect.unit ![6, 0, 0] S1x64x256.size inb_S16x64x256_S1x64x256_6_0_0, ohP (View.ld tg (Rect.unit ![6, 0] S1x256.size inb_S16x256_S1x256_6_0))⟩,
   ⟨Rect.unit ![5, 0, 0] S1x64x256.size inb_S16x64x256_S1x64x256_5_0_0, ohP (View.ld tg (Rect.unit ![5, 0] S1x256.size inb_S16x256_S1x256_5_0))⟩,
   ⟨Rect.unit ![4, 0, 0] S1x64x256.size inb_S16x64x256_S1x64x256_4_0_0, ohP (View.ld tg (Rect.unit ![4, 0] S1x256.size inb_S16x256_S1x256_4_0))⟩,
   ⟨Rect.unit ![3, 0, 0] S1x64x256.size inb_S16x64x256_S1x64x256_3_0_0, ohP (View.ld tg (Rect.unit ![3, 0] S1x256.size inb_S16x256_S1x256_3_0))⟩,
   ⟨Rect.unit ![2, 0, 0] S1x64x256.size inb_S16x64x256_S1x64x256_2_0_0, ohP (View.ld tg (Rect.unit ![2, 0] S1x256.size inb_S16x256_S1x256_2_0))⟩,
   ⟨Rect.unit ![1, 0, 0] S1x64x256.size inb_S16x64x256_S1x64x256_1_0_0, ohP (View.ld tg (Rect.unit ![1, 0] S1x256.size inb_S16x256_S1x256_1_0))⟩,
   ⟨Rect.unit ![0, 0, 0] S1x64x256.size inb_S16x64x256_S1x64x256_0_0_0, ohP (View.ld tg (Rect.unit ![0, 0] S1x256.size inb_S16x256_S1x256_0_0))⟩]

theorem reads_el (a : Memref sig .tc .vmem S256x16x384 .f32) (lp : FVec Ideal S16x256x64 .f32) (w : Fin 16 → Vec Ideal S1x64x256 .f32)
    (oh : S16x64x256.Idx → EReal) (hw : ∀ b v k, w b (ix3 0 v k) = oh (ix3 b v k)) :
    Holds a (a.view.writes (Elt Ideal) a.view.junk (elL lp w)) (elT lp oh) :=
  reads_of_pieces _ _ _ ⟨block_mk _ _ 15 inb_S256x16x384_S256x1x128_0_15_256,
   block_el lp oh 15 inb_S256x16x384_S256x1x256_0_15_0 slices_S16x256x64_o15_0_0_S1x256x64 _ (hw 15),
   block_mk _ _ 14 inb_S256x16x384_S256x1x128_0_14_256,
   block_el lp oh 14 inb_S256x16x384_S256x1x256_0_14_0 slices_S16x256x64_o14_0_0_S1x256x64 _ (hw 14),
   block_mk _ _ 13 inb_S256x16x384_S256x1x128_0_13_256,
   block_el lp oh 13 inb_S256x16x384_S256x1x256_0_13_0 slices_S16x256x64_o13_0_0_S1x256x64 _ (hw 13),
   block_mk _ _ 12 inb_S256x16x384_S256x1x128_0_12_256,
   block_el lp oh 12 inb_S256x16x384_S256x1x256_0_12_0 slices_S16x256x64_o12_0_0_S1x256x64 _ (hw 12),
   block_mk _ _ 11 inb_S256x16x384_S256x1x128_0_11_256,
   block_el lp oh 11 inb_S256x16x384_S256x1x256_0_11_0 slices_S16x256x64_o11_0_0_S1x256x64 _ (hw 11),
   block_mk _ _ 10 inb_S256x16x384_S256x1x128_0_10_256,
   block_el lp oh 10 inb_S256x16x384_S256x1x256_0_10_0 slices_S16x256x64_o10_0_0_S1x256x64 _ (hw 10),
   block_mk _ _ 9 inb_S256x16x384_S256x1x128_0_9_256,
   block_el lp oh 9 inb_S256x16x384_S256x1x256_0_9_0 slices_S16x256x64_o9_0_0_S1x256x64 _ (hw 9),
   block_mk _ _ 8 inb_S256x16x384_S256x1x128_0_8_256,
   block_el lp oh 8 inb_S256x16x384_S256x1x256_0_8_0 slices_S16x256x64_o8_0_0_S1x256x64 _ (hw 8),
   block_mk _ _ 7 inb_S256x16x384_S256x1x128_0_7_256,
   block_el lp oh 7 inb_S256x16x384_S256x1x256_0_7_0 slices_S16x256x64_o7_0_0_S1x256x64 _ (hw 7),
   block_mk _ _ 6 inb_S256x16x384_S256x1x128_0_6_256,
   block_el lp oh 6 inb_S256x16x384_S256x1x256_0_6_0 slices_S16x256x64_o6_0_0_S1x256x64 _ (hw 6),
   block_mk _ _ 5 inb_S256x16x384_S256x1x128_0_5_256,
   block_el lp oh 5 inb_S256x16x384_S256x1x256_0_5_0 slices_S16x256x64_o5_0_0_S1x256x64 _ (hw 5),
   block_mk _ _ 4 inb_S256x16x384_S256x1x128_0_4_256,
   block_el lp oh 4 inb_S256x16x384_S256x1x256_0_4_0 slices_S16x256x64_o4_0_0_S1x256x64 _ (hw 4),
   block_mk _ _ 3 inb_S256x16x384_S256x1x128_0_3_256,
   block_el lp oh 3 inb_S256x16x384_S256x1x256_0_3_0 slices_S16x256x64_o3_0_0_S1x256x64 _ (hw 3),
   block_mk _ _ 2 inb_S256x16x384_S256x1x128_0_2_256,
   block_el lp oh 2 inb_S256x16x384_S256x1x256_0_2_0 slices_S16x256x64_o2_0_0_S1x256x64 _ (hw 2),
   block_mk _ _ 1 inb_S256x16x384_S256x1x128_0_1_256,
   block_el lp oh 1 inb_S256x16x384_S256x1x256_0_1_0 slices_S16x256x64_o1_0_0_S1x256x64 _ (hw 1),
   block_mk _ _ 0 inb_S256x16x384_S256x1x128_0_0_256,
   block_el lp oh 0 inb_S256x16x384_S256x1x256_0_0_0 slices_S16x256x64_o0_0_0_S1x256x64 _ (hw 0), trivial⟩ (cover_of_coversT _ (by rfl))

theorem reads_eb (a : Memref sig .tc .vmem S256x16x384 .f32) (lp : FVec Ideal S16x256x64 .f32) :
    Holds a (a.view.writes (Elt Ideal) a.view.junk (ebL lp)) (ebT lp) :=
  reads_of_pieces _ _ _ ⟨block_eb lp 15 inb_S256x16x384_S256x1x384_0_15_0 slices_S16x256x64_o15_0_0_S1x256x64,
   block_eb lp 14 inb_S256x16x384_S256x1x384_0_14_0 slices_S16x256x64_o14_0_0_S1x256x64,
   block_eb lp 13 inb_S256x16x384_S256x1x384_0_13_0 slices_S16x256x64_o13_0_0_S1x256x64,
   block_eb lp 12 inb_S256x16x384_S256x1x384_0_12_0 slices_S16x256x64_o12_0_0_S1x256x64,
   block_eb lp 11 inb_S256x16x384_S256x1x384_0_11_0 slices_S16x256x64_o11_0_0_S1x256x64,
   block_eb lp 10 inb_S256x16x384_S256x1x384_0_10_0 slices_S16x256x64_o10_0_0_S1x256x64,
   block_eb lp 9 inb_S256x16x384_S256x1x384_0_9_0 slices_S16x256x64_o9_0_0_S1x256x64,
   block_eb lp 8 inb_S256x16x384_S256x1x384_0_8_0 slices_S16x256x64_o8_0_0_S1x256x64,
   block_eb lp 7 inb_S256x16x384_S256x1x384_0_7_0 slices_S16x256x64_o7_0_0_S1x256x64,
   block_eb lp 6 inb_S256x16x384_S256x1x384_0_6_0 slices_S16x256x64_o6_0_0_S1x256x64,
   block_eb lp 5 inb_S256x16x384_S256x1x384_0_5_0 slices_S16x256x64_o5_0_0_S1x256x64,
   block_eb lp 4 inb_S256x16x384_S256x1x384_0_4_0 slices_S16x256x64_o4_0_0_S1x256x64,
   block_eb lp 3 inb_S256x16x384_S256x1x384_0_3_0 slices_S16x256x64_o3_0_0_S1x256x64,
   block_eb lp 2 inb_S256x16x384_S256x1x384_0_2_0 slices_S16x256x64_o2_0_0_S1x256x64,
   block_eb lp 1 inb_S256x16x384_S256x1x384_0_1_0 slices_S16x256x64_o1_0_0_S1x256x64,
   block_eb lp 0 inb_S256x16x384_S256x1x384_0_0_0 slices_S16x256x64_o0_0_0_S1x256x64, trivial⟩ (cover_of_coversT _ (by rfl))

theorem pieces_oh (tg : Vec Ideal S16x256 .i32) : View.PiecesOf (Val := Elt Ideal) (e := .f32) (ohT tg) (ohL tg) :=
  ⟨block_oh tg 15 inb_S16x64x256_S1x64x256_15_0_0 _ (load_tg tg 15 inb_S16x256_S1x256_15_0),
   block_oh tg 14 inb_S16x64x256_S1x64x256_14_0_0 _ (load_tg tg 14 inb_S16x256_S1x256_14_0),
   block_oh tg 13 inb_S16x64x256_S1x64x256_13_0_0 _ (load_tg tg 13 inb_S16x256_S1x256_13_0),
   block_oh tg 12 inb_S16x64x256_S1x64x256_12_0_0 _ (load_tg tg 12 inb_S16x256_S1x256_12_0),
   block_oh tg 11 inb_S16x64x256_S1x64x256_11_0_0 _ (load_tg tg 11 inb_S16x256_S1x256_11_0),
   block_oh tg 10 inb_S16x64x256_S1x64x256_10_0_0 _ (load_tg tg 10 inb_S16x256_S1x256_10_0),
   block_oh tg 9 inb_S16x64x256_S1x64x256_9_0_0 _ (load_tg tg 9 inb_S16x256_S1x256_9_0),
   block_oh tg 8 inb_S16x64x256_S1x64x256_8_0_0 _ (load_tg tg 8 inb_S16x256_S1x256_8_0),
   block_oh tg 7 inb_S16x64x256_S1x64x256_7_0_0 _ (load_tg tg 7 inb_S16x256_S1x256_7_0),
   block_oh tg 6 inb_S16x64x256_S1x64x256_6_0_0 _ (load_tg tg 6 inb_S16x256_S1x256_6_0),
   block_oh tg 5 inb_S16x64x256_S1x64x256_5_0_0 _ (load_tg tg 5 inb_S16x256_S1x256_5_0),
   block_oh tg 4 inb_S16x64x256_S1x64x256_4_0_0 _ (load_tg tg 4 inb_S16x256_S1x256_4_0),
   block_oh tg 3 inb_S16x64x256_S1x64x256_3_0_0 _ (load_tg tg 3 inb_S16x256_S1x256_3_0),
   block_oh tg 2 inb_S16x64x256_S1x64x256_2_0_0 _ (load_tg tg 2 inb_S16x256_S1x256_2_0),
   block_oh tg 1 inb_S16x64x256_S1x64x256_1_0_0 _ (load_tg tg 1 inb_S16x256_S1x256_1_0),
   block_oh tg 0 inb_S16x64x256_S1x64x256_0_0_0 _ (load_tg tg 0 inb_S16x256_S1x256_0_0), trivial⟩

theorem canon_oh (tg : Vec Ideal S16x256 .i32) (y : S16x64x256.Idx) : View.canon (ohL tg) y = ohT tg y :=
  View.canon_apply_of_pieces (S := S16x64x256) (e := .f32) (Val := Elt Ideal) (ohT tg) (ohL tg) (pieces_oh tg).mem y
    (View.cover_of_tiledL (ohL tg) S1x64x256.size (by sl_kernel_rfl) y)

theorem inbOh (b : Fin 16) : ∀ a, (![b.val, 0, 0] : Fin 3 → ℕ) a + S1x64x256.size a ≤ S16x64x256.size a := fun a => by
  have := b.isLt
  match a with
  | ⟨0, _⟩ => show b.val + 1 ≤ 16; omega
  | ⟨1, _⟩ => exact le_refl _
  | ⟨2, _⟩ => exact le_refl _

/-- The columns of one sample, loaded from the array of columns. -/
def colOf (oh : Vec Ideal S16x64x256 .f32) (b : Fin 16) : Vec Ideal S1x64x256 .f32 :=
  View.ld oh (Rect.unit (s := S16x64x256) ![b.val, 0, 0] S1x64x256.size (inbOh b))

theorem colOf_apply (oh : Vec Ideal S16x64x256 .f32) (b : Fin 16) (v : Fin 64) (k : Fin 256) :
    colOf oh b (ix3 0 v k) = oh (ix3 b v k) := load_oh oh b (inbOh b) v k

theorem row0_idx (b : Fin 16) (k : Fin 384) :
    (Rect.unit (s := S256x16x384) ![0, 0, 0] S1x16x384.size inb_S256x16x384_S1x16x384_0_0_0).toLoadRect.idx (ix3 0 b k) = ix3 0 b k := by
  funext a
  match a with
  | ⟨0, _⟩ => rfl
  | ⟨1, _⟩ => exact Fin.ext (by show 0 + 1 * b.val = b.val; omega)
  | ⟨2, _⟩ => exact Fin.ext (by show 0 + 1 * k.val = k.val; omega)

theorem row0_read (a : Memref sig .tc .vmem S256x16x384 .f32) (X : a.view.ty.Contents (Elt Ideal)) (G : S256x16x384.Idx → EReal)
    (h : Holds a X G) (b : Fin 16) (k : Fin 384) :
    a.view.readAt (Elt Ideal) (Rect.unit (s := S256x16x384) ![0, 0, 0] S1x16x384.size inb_S256x16x384_S1x16x384_0_0_0).toLoadRect X (ix3 0 b k)
      = G (ix3 0 b k) := by
  rw [h]
  exact congrArg G (row0_idx b k)

variable (c : Dev nD) (i : grid0.Coords)
  (arg1 : Memref sig .tc .vmem S16x256 .i32) (harg1 : arg1.IsWhole) (arg2 : Memref sig .tc .vmem S16x384 .i32) (harg2 : arg2.IsWhole)
  (arg3 : Memref sig .tc .vmem S16x1 .i32) (harg3 : arg3.IsWhole) (arg4 : Memref sig .tc .vmem S16x1 .i32) (harg4 : arg4.IsWhole)
  (arg5 : Memref sig .tc .vmem S16x256x64 .f32) (harg5 : arg5.IsWhole) (arg6 : Memref sig .tc .vmem S16x128 .f32) (harg6 : arg6.IsWhole)
  (arg7 : Memref sig .tc .vmem S16x384 .f32) (harg7 : arg7.IsWhole) (arg8 : Memref sig .tc .vmem S16x384 .f32) (harg8 : arg8.IsWhole)
  (arg9 : Memref sig .tc .vmem S16x64x256 .f32) (harg9 : arg9.IsWhole) (arg10 : Memref sig .tc .vmem S256x16x384 .f32) (harg10 : arg10.IsWhole)
  (arg11 : Memref sig .tc .vmem S256x16x384 .f32) (harg11 : arg11.IsWhole)
  (x0 : Vec Ideal S16x256 .i32) (x1 : Vec Ideal S16x384 .i32) (x2 : Vec Ideal S16x1 .i32) (x3 : Vec Ideal S16x1 .i32)
  (x4 : Vec Ideal S16x256x64 .f32) (xs0 xs1 : Vec Ideal S16x384 .f32) (xs2 : Vec Ideal S16x64x256 .f32)

set_option maxHeartbeats 4000000 in
theorem runB (hc0 : ¬cond0_0 i) (hc1 : ¬cond0_1 i) (hc2 : cond0_2 i) (hc3 : ¬cond0_3 i) (hc4 : ¬cond0_4 i) :
    ∃ X10 X11, Holds arg10 X10 (elT (k0_pay26 x4) (xs2)) ∧ Holds arg11 X11 (ebT (k0_pay26 x4))
      ∧ sout0_B_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t2 Variants.none c none i arg1 harg1 arg2 harg2 arg3 harg3 arg4 harg4 arg5 harg5 arg6 harg6 arg7 harg7 arg8 harg8 arg9 harg9 arg10 harg10 arg11 harg11 x1 hc2 X10 X11 (xs0, xs1) 256).1
      ∧ sout0_B_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t2 Variants.none c none i arg1 harg1 arg2 harg2 arg3 harg3 arg4 harg4 arg5 harg5 arg6 harg6 arg7 harg7 arg8 harg8 arg9 harg9 arg10 harg10 arg11 harg11 x1 hc2 X10 X11 (xs0, xs1) 256).2 := by
  unfold sout0_B_0 sout0_B_1
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2),
    View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2)]
  unfold kernelRun0_B
  dsimp only
  sl_unfold_words
  simp only [View.readAt_eq_ld, harg1.read_unread, harg2.read_unread, harg3.read_unread, harg4.read_unread,
    harg5.read_unread, harg7.read_unread, harg8.read_unread, harg9.read_unread, View.canon_unit_zero (S := S16x384) hz2,
    View.canon_unit_zero (S := S16x128) hz2, View.readCov_unit_zero (S := S16x384) _ hz2,
    View.ld_unit_zero (S := S16x384) hz2, View.ld_unit_zero (S := S16x1) hz2, View.ld_unit_zero (S := S16x256x64) hz3, k0_pay96, k0_pay97, shapeCast_self]
  exact ⟨arg10.view.writes (Elt Ideal) arg10.view.junk (elL (k0_pay26 x4) (colOf xs2)), arg11.view.writes (Elt Ideal) arg11.view.junk (ebL (k0_pay26 x4)),
    reads_el _ _ _ _ (colOf_apply xs2), reads_eb _ _, rfl, rfl⟩

set_option maxHeartbeats 4000000 in
theorem runC (hc0 : ¬cond0_0 i) (hc1 : ¬cond0_1 i) (hc2 : ¬cond0_2 i) (hc3 : cond0_3 i) (hc4 : ¬cond0_4 i) :
    ∃ X10 X11, Holds arg10 X10 (elT (k0_pay26 x4) (xs2)) ∧ Holds arg11 X11 (ebT (k0_pay26 x4))
      ∧ sout0_C_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).1
      ∧ sout0_C_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).2 := by
  unfold sout0_C_0 sout0_C_1
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2),
    View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2)]
  unfold kernelRun0_C
  dsimp only
  sl_unfold_words
  simp only [View.readAt_eq_ld, harg1.read_unread, harg2.read_unread, harg3.read_unread, harg4.read_unread,
    harg5.read_unread, harg7.read_unread, harg8.read_unread, harg9.read_unread, View.canon_unit_zero (S := S16x384) hz2,
    View.canon_unit_zero (S := S16x128) hz2, View.readCov_unit_zero (S := S16x384) _ hz2,
    View.ld_unit_zero (S := S16x384) hz2, View.ld_unit_zero (S := S16x1) hz2, View.ld_unit_zero (S := S16x256x64) hz3, k0_pay5, k0_pay6, k0_pay85, shapeCast_self]
  exact ⟨arg10.view.writes (Elt Ideal) arg10.view.junk (elL (k0_pay26 x4) (colOf xs2)), arg11.view.writes (Elt Ideal) arg11.view.junk (ebL (k0_pay26 x4)),
    reads_el _ _ _ _ (colOf_apply xs2), reads_eb _ _, rfl, rfl⟩

set_option maxHeartbeats 4000000 in
theorem runD (hc0 : ¬cond0_0 i) (hc1 : ¬cond0_1 i) (hc2 : ¬cond0_2 i) (hc3 : cond0_3 i) (hc4 : cond0_4 i) :
    ∃ X10 X11, Holds arg10 X10 (elT (k0_pay26 x4) (xs2)) ∧ Holds arg11 X11 (ebT (k0_pay26 x4))
      ∧ sout0_D_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).1
      ∧ sout0_D_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).2
      ∧ out0_D_5 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2
        = k0_pay7 (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).1 (st_k0_t3 Variants.none c none i arg1 harg1 arg2 harg2 arg3 harg3 arg4 harg4 arg5 harg5 arg6 harg6 arg7 harg7 arg8 harg8 arg9 harg9 arg10 harg10 arg11 harg11 (BitVec.ofNat 32 (i 0)) (k0_pay84 x1) x2 hc3 X10 X11 (xs0, xs1) 256).2 x3 := by
  unfold sout0_D_0 sout0_D_1 out0_D_5
  rw [View.read_writes_eq_canon _ _ _ (scover0_D_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2),
    View.read_writes_eq_canon _ _ _ (scover0_D_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2),
    View.read_writes_eq_canon _ _ _ (cover0_D_5 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 xs0 xs1 xs2)]
  unfold kernelRun0_D
  dsimp only
  sl_unfold_words
  simp only [View.readAt_eq_ld, harg1.read_unread, harg2.read_unread, harg3.read_unread, harg4.read_unread,
    harg5.read_unread, harg7.read_unread, harg8.read_unread, harg9.read_unread, View.canon_unit_zero (S := S16x384) hz2,
    View.canon_unit_zero (S := S16x128) hz2, View.readCov_unit_zero (S := S16x384) _ hz2,
    View.ld_unit_zero (S := S16x384) hz2, View.ld_unit_zero (S := S16x1) hz2, View.ld_unit_zero (S := S16x256x64) hz3, k0_pay5, k0_pay6, k0_pay85, shapeCast_self]
  exact ⟨arg10.view.writes (Elt Ideal) arg10.view.junk (elL (k0_pay26 x4) (colOf xs2)), arg11.view.writes (Elt Ideal) arg11.view.junk (ebL (k0_pay26 x4)),
    reads_el _ _ _ _ (colOf_apply xs2), reads_eb _ _, rfl, rfl, rfl⟩

set_option maxHeartbeats 4000000 in
theorem runA (hc0 : cond0_0 i) (hc1 : cond0_1 i) (hc2 : ¬cond0_2 i) (hc3 : ¬cond0_3 i) (hc4 : ¬cond0_4 i) :
    ∃ X10 X11 v w, Holds arg10 X10 (elT (k0_pay26 x4) (ohT x0)) ∧ Holds arg11 X11 (ebT (k0_pay26 x4))
      ∧ (∀ b k, v (ix3 0 b k) = ebT (k0_pay26 x4) (ix3 0 b k)) ∧ (∀ b k, w (ix3 0 b k) = elT (k0_pay26 x4) (ohT x0) (ix3 0 b k))
      ∧ sout0_A_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4
        = (st_k0_t1 Variants.none c none i arg1 harg1 arg2 harg2 arg3 harg3 arg4 harg4 arg5 harg5 arg6 harg6 arg7 harg7 arg8 harg8 arg9 harg9 arg10 harg10 arg11 harg11 x1 hc1 X10 X11 (k0_pay86 v, k0_pay87 w) 255).1
      ∧ sout0_A_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4
        = (st_k0_t1 Variants.none c none i arg1 harg1 arg2 harg2 arg3 harg3 arg4 harg4 arg5 harg5 arg6 harg6 arg7 harg7 arg8 harg8 arg9 harg9 arg10 harg10 arg11 harg11 x1 hc1 X10 X11 (k0_pay86 v, k0_pay87 w) 255).2
      ∧ sout0_A_2 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 = ohT x0 := by
  unfold sout0_A_0 sout0_A_1 sout0_A_2
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4),
    View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4),
    View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 hc2 hc3 hc4 x0 x1 x2 x3 x4)]
  unfold kernelRun0_A
  dsimp only
  sl_unfold_words
  simp only [View.readAt_eq_ld, harg1.read_unread, harg2.read_unread, harg3.read_unread, harg4.read_unread,
    harg5.read_unread, harg7.read_unread, harg8.read_unread, harg9.read_unread, View.canon_unit_zero (S := S16x384) hz2,
    View.canon_unit_zero (S := S16x128) hz2, View.readCov_unit_zero (S := S16x384) _ hz2,
    View.ld_unit_zero (S := S16x384) hz2, View.ld_unit_zero (S := S16x1) hz2, View.ld_unit_zero (S := S16x256x64) hz3, k0_pay91, k0_pay92, shapeCast_self]
  have hw : ∀ (b : Fin 16) (v : Fin 64) (k : Fin 256), arg9.view.readCov (ohL x0)
      (Rect.unit (s := S16x64x256) ![b.val, 0, 0] S1x64x256.size (inbOh b)).toLoadRect (ix3 0 v k) = ohT x0 (ix3 b v k) := fun b v k => by
    rw [View.readCov_eq_canon']
    exact (canon_oh x0 _).trans (load_oh (ohT x0) b (inbOh b) v k)
  refine ⟨arg10.view.writes (Elt Ideal) arg10.view.junk (elL (k0_pay26 x4) fun b => arg9.view.readCov (ohL x0)
      (Rect.unit (s := S16x64x256) ![b.val, 0, 0] S1x64x256.size (inbOh b)).toLoadRect), arg11.view.writes (Elt Ideal) arg11.view.junk (ebL (k0_pay26 x4)),
    _, _, reads_el _ _ _ _ hw, reads_eb _ _, fun b k => ?_, fun b k => ?_, rfl, rfl, ?_⟩
  · exact row0_read arg11 _ _ (reads_eb arg11 (k0_pay26 x4)) b k
  · exact row0_read arg10 _ _ (reads_el arg10 (k0_pay26 x4) _ (ohT x0) hw) b k
  · exact funext (canon_oh x0)

end Cert.Ctc

end
-- ==== Proof.Steps.lean ====
/- The steps of the loops: every trip carries the pair of rows one step of the recursion on. -/
module

public import proofs.«01_k».proof.Proof.Points

@[expose] public section

set_option maxRecDepth 65536

noncomputable section

namespace Cert.Ctc

open Idealize.ShloMosaic Cert.KernelIdeal Cert.KernelIdeal.Gen
open Idealize.ShloMosaic.TcCoe Idealize.SL.Sem

/-- The array of lanes that may be entered from the lane before says so of the odd states; no even state may. -/
def Lanes (sk : ℕ → Prop) (w : Vec Ideal S16x384 .i32) (b : Fin 16) : Prop :=
  (∀ k, ¬ sk (2 * k)) ∧ ∀ k, 0 < k → k < 256 → (skips w b k ↔ sk (2 * k + 1))

/-- The two tables hold one sample's log-probabilities of the states from a step on. -/
def Tab (E : ℕ → ℕ → EReal) (b : Fin 16) (T : ℕ) (G10 G11 : S256x16x384.Idx → EReal) : Prop :=
  ∀ k : Fin 256, (∀ l : Fin 384, G11 (ix3 k b l) = G11 (ix3 k b 0)) ∧ (∀ l, l ≤ 256 → E (T + k.val) (2 * l) * C = G11 (ix3 k b 0))
    ∧ (∀ l : Fin 384, l.val < 256 → G10 (ix3 k b l) = E (T + k.val) (2 * l.val + 1) * C) ∧ G10 (ix3 k b 383) = ⊥

theorem Rows.stepT {E : ℕ → ℕ → EReal} {sk : ℕ → Prop} [DecidablePred sk] {live : ℕ → Prop} [DecidablePred live] {t : ℕ}
    {x y x' y' : S16x384.Idx → EReal} {v u : S1x16x384.Idx → EReal} {b : Fin 16} {w : Vec Ideal S16x384 .i32} {e : EReal}
    (h : Rows E sk live t (row x b) (row y b)) (hsk : Lanes sk w b) (hv : ∀ l, v (ix3 0 b l) = e)
    (he : ∀ l, l ≤ 256 → E (t + 1) (2 * l) * C = e) (hu : ∀ l : Fin 384, l.val < 256 → u (ix3 0 b l) = E (t + 1) (2 * l.val + 1) * C)
    (hu' : u (ix3 0 b 383) = ⊥)
    (hx : ∀ l : Fin 384, x' (ix2 b l)
      = if live (t + 1) then stepB (x (ix2 b l)) (roll (row y b) l.val) (v (ix3 0 b l)) else x (ix2 b l))
    (hy : ∀ l : Fin 384, y' (ix2 b l) = if live (t + 1) then
      stepC (y (ix2 b l)) (x (ix2 b l)) (if skips w b l.val then roll (row y b) l.val else ⊥) (u (ix3 0 b l)) else y (ix2 b l)) :
    Rows E sk live (t + 1) (row x' b) (row y' b) := by
  refine Rows.step (skc := skips w b) (el := fun l => if hl : l < 384 then u (ix3 0 b ⟨l, hl⟩) else ⊥) (eb := e) E sk live h hsk.1 hsk.2 he
    (fun l hl => ?_) ?_ (fun l hl => ?_) (fun l hl => ?_)
  · rw [dif_pos (by omega)]
    exact hu ⟨l, by omega⟩ hl
  · exact hu'
  · have h3 : l < 384 := by omega
    rw [row_lt _ _ h3, row_lt _ _ h3, hx, hv]
  · rw [row_lt _ _ hl, row_lt _ _ hl, row_lt _ _ hl, dif_pos hl, hy]

theorem rowk_read (a : Memref sig .tc .vmem S256x16x384 .f32) (X : a.view.ty.Contents (Elt Ideal)) (G : S256x16x384.Idx → EReal)
    (h : Holds a X G) (k : ℕ) (hk : k < 256) (off : Fin 3 → ℕ) (inb : ∀ a, off a + S1x16x384.size a ≤ S256x16x384.size a)
    (e : off = ![k, 0, 0]) (b : Fin 16) (l : Fin 384) :
    a.view.readAt (Elt Ideal) (Rect.unit (s := S256x16x384) off S1x16x384.size inb).toLoadRect X (ix3 0 b l) = G (ix3 ⟨k, hk⟩ b l) := by
  subst e
  rw [h]
  refine congrArg G (funext fun a => ?_)
  match a with
  | ⟨0, _⟩ => exact Fin.ext (by show k + 1 * 0 = k; omega)
  | ⟨1, _⟩ => exact Fin.ext (by show 0 + 1 * b.val = b.val; omega)
  | ⟨2, _⟩ => exact Fin.ext (by show 0 + 1 * l.val = l.val; omega)

theorem ofBool_one (p : Bool) : BitVec.ofBool p = 1#1 ↔ p = true := by cases p <;> decide

/-- The mask of a step: whether its number is below the sample's length. -/
theorem pay2 (a : ℕ) (n : IVec S16x1 32) (t : Fin k0_t3_loop.trips) (b : Fin 16) (k : Fin 256) (hk : t.val = k.val := by rfl) :
    k0_pay2 (BitVec.ofNat 32 a) n t (ix2 b 0) = 1#1 ↔ (BitVec.ofNat 32 (256 * a + k.val)).slt (n (ix2 b 0)) = true := by
  have e : Scalar.addi (Scalar.muli (BitVec.ofNat 32 a) 256#32) (Scf.iv 0#32 1#32 t) = BitVec.ofNat 32 (256 * a + k.val) := by
    show BitVec.ofNat 32 a * 256#32 + (0#32 + BitVec.ofNat 32 t.val * 1#32) = _
    rw [hk, BitVec.zero_add, BitVec.mul_one, mul_comm 256 a, BitVec.ofNat_add, BitVec.ofNat_mul]
  show IntOp.cmpi .slt (Scalar.addi (Scalar.muli (BitVec.ofNat 32 a) 256#32) (Scf.iv 0#32 1#32 t)) (n (ix2 b 0)) = 1#1 ↔ _
  rw [e]
  exact ofBool_one _

variable (c : Dev nD) (i : grid0.Coords)
  (arg1 : Memref sig .tc .vmem S16x256 .i32) (harg1 : arg1.IsWhole) (arg2 : Memref sig .tc .vmem S16x384 .i32) (harg2 : arg2.IsWhole)
  (arg3 : Memref sig .tc .vmem S16x1 .i32) (harg3 : arg3.IsWhole) (arg4 : Memref sig .tc .vmem S16x1 .i32) (harg4 : arg4.IsWhole)
  (arg5 : Memref sig .tc .vmem S16x256x64 .f32) (harg5 : arg5.IsWhole) (arg6 : Memref sig .tc .vmem S16x128 .f32) (harg6 : arg6.IsWhole)
  (arg7 : Memref sig .tc .vmem S16x384 .f32) (harg7 : arg7.IsWhole) (arg8 : Memref sig .tc .vmem S16x384 .f32) (harg8 : arg8.IsWhole)
  (arg9 : Memref sig .tc .vmem S16x64x256 .f32) (harg9 : arg9.IsWhole) (arg10 : Memref sig .tc .vmem S256x16x384 .f32) (harg10 : arg10.IsWhole)
  (arg11 : Memref sig .tc .vmem S256x16x384 .f32) (harg11 : arg11.IsWhole)
  (x1 : Vec Ideal S16x384 .i32) (x2 : Vec Ideal S16x1 .i32)

set_option maxHeartbeats 1000000 in
theorem loop1 (hc1 : cond0_1 i) (X10 : arg10.view.ty.Contents (Elt Ideal)) (X11 : arg11.view.ty.Contents (Elt Ideal))
    {G10 G11 : S256x16x384.Idx → EReal} (h10 : Holds arg10 X10 G10) (h11 : Holds arg11 X11 G11)
    {E : ℕ → ℕ → EReal} {sk : ℕ → Prop} [DecidablePred sk] {live : ℕ → Prop} [DecidablePred live] (b : Fin 16)
    (init : FVec Ideal S16x384 .f32 × FVec Ideal S16x384 .f32)
    (h0 : Rows E sk live 0 (row init.1 b) (row init.2 b)) (hsk : Lanes sk x1 b) (hT : Tab E b 0 G10 G11)
    (hlive : ∀ k, 0 < k → k < 256 → live k) (k : ℕ) (hk : k ≤ 255) :
    Rows E sk live k (row (st_k0_t1 Variants.none c none i arg1 harg1 arg2 harg2 arg3 harg3 arg4 harg4 arg5 harg5 arg6 harg6 arg7 harg7 arg8 harg8 arg9 harg9 arg10 harg10 arg11 harg11 x1 hc1 X10 X11 init k).1 b) (row (st_k0_t1 Variants.none c none i arg1 harg1 arg2 harg2 arg3 harg3 arg4 harg4 arg5 harg5 arg6 harg6 arg7 harg7 arg8 harg8 arg9 harg9 arg10 harg10 arg11 harg11 x1 hc1 X10 X11 init k).2 b) := by
  induction k with
  | zero => exact h0
  | succ k ih =>
    have hk : k < 255 := hk
    obtain ⟨hb, he, ho, hl⟩ := hT ⟨k + 1, by omega⟩
    have es := st_k0_t1_succ Variants.none c none i arg1 harg1 arg2 harg2 arg3 harg3 arg4 harg4 arg5 harg5 arg6 harg6 arg7 harg7 arg8 harg8 arg9 harg9 arg10 harg10 arg11 harg11 x1 hc1 X10 X11 init (⟨k, hk⟩ : Fin 255)
    simp only [] at es
    rw [es]
    unfold tripR_k0_t1 trip_k0_t1
    dsimp only
    sl_unfold_words
    have hi := ih (by omega)
    refine Rows.stepT (e := G11 (ix3 ⟨k + 1, by omega⟩ b 0)) hi hsk ?_ ?_ ?_ ?_ ?_ ?_ (v := View.readAt (Elt Ideal) arg11.view (Rect.unit (s := S256x16x384) (k0_off1 (⟨k, hk⟩ : Fin 255)) S1x16x384.size (k0_off1_inb i _ hc1)).toLoadRect X11)
      (u := View.readAt (Elt Ideal) arg10.view (Rect.unit (s := S256x16x384) (k0_off1 (⟨k, hk⟩ : Fin 255)) S1x16x384.size (k0_off1_inb i _ hc1)).toLoadRect X10)
    · intro l
      exact (rowk_read arg11 X11 G11 h11 (k + 1) (by omega) _ _ (k0_off1_eq _) b l).trans (hb l)
    · intro l hl
      exact (congrArg (fun n => E n (2 * l) * C) (by omega : k + 1 = 0 + (k + 1))).trans (he l hl)
    · intro l hl
      refine (rowk_read arg10 X10 G10 h10 (k + 1) (by omega) _ _ (k0_off1_eq _) b l).trans ((ho l hl).trans ?_)
      exact congrArg (fun n => E n (2 * l.val + 1) * C) (by omega : k + 1 = 0 + (k + 1)).symm
    · exact (rowk_read arg10 X10 G10 h10 (k + 1) (by omega) _ _ (k0_off1_eq _) b 383).trans hl
    · intro l
      rw [if_pos (hlive (k + 1) (by omega) (by omega))]
      exact pay89 _ _ _ b l
    · intro l
      rw [if_pos (hlive (k + 1) (by omega) (by omega))]
      exact pay90 _ _ _ _ b l

set_option maxHeartbeats 1000000 in
theorem loop2 (hc2 : cond0_2 i) (X10 : arg10.view.ty.Contents (Elt Ideal)) (X11 : arg11.view.ty.Contents (Elt Ideal))
    {G10 G11 : S256x16x384.Idx → EReal} (h10 : Holds arg10 X10 G10) (h11 : Holds arg11 X11 G11)
    {E : ℕ → ℕ → EReal} {sk : ℕ → Prop} [DecidablePred sk] {live : ℕ → Prop} [DecidablePred live] {t : ℕ} (b : Fin 16)
    (init : FVec Ideal S16x384 .f32 × FVec Ideal S16x384 .f32)
    (h0 : Rows E sk live t (row init.1 b) (row init.2 b)) (hsk : Lanes sk x1 b) (hT : Tab E b (t + 1) G10 G11)
    (hlive : ∀ k, k < 256 → live (t + 1 + k)) (k : ℕ) (hk : k ≤ 256) :
    Rows E sk live (t + k) (row (st_k0_t2 Variants.none c none i arg1 harg1 arg2 harg2 arg3 harg3 arg4 harg4 arg5 harg5 arg6 harg6 arg7 harg7 arg8 harg8 arg9 harg9 arg10 harg10 arg11 harg11 x1 hc2 X10 X11 init k).1 b) (row (st_k0_t2 Variants.none c none i arg1 harg1 arg2 harg2 arg3 harg3 arg4 harg4 arg5 harg5 arg6 harg6 arg7 harg7 arg8 harg8 arg9 harg9 arg10 harg10 arg11 harg11 x1 hc2 X10 X11 init k).2 b) := by
  induction k with
  | zero => exact h0
  | succ k ih =>
    have hk : k < 256 := hk
    obtain ⟨hb, he, ho, hl⟩ := hT ⟨k, by omega⟩
    have es := st_k0_t2_succ Variants.none c none i arg1 harg1 arg2 harg2 arg3 harg3 arg4 harg4 arg5 harg5 arg6 harg6 arg7 harg7 arg8 harg8 arg9 harg9 arg10 harg10 arg11 harg11 x1 hc2 X10 X11 init (⟨k, hk⟩ : Fin 256)
    simp only [] at es
    rw [es]
    unfold tripR_k0_t2 trip_k0_t2
    dsimp only
    sl_unfold_words
    have hi := ih (by omega)
    refine Rows.stepT (e := G11 (ix3 ⟨k, by omega⟩ b 0)) hi hsk ?_ ?_ ?_ ?_ ?_ ?_ (v := View.readAt (Elt Ideal) arg11.view (Rect.unit (s := S256x16x384) (k0_off2 (⟨k, hk⟩ : Fin 256)) S1x16x384.size (k0_off2_inb i _ hc2)).toLoadRect X11)
      (u := View.readAt (Elt Ideal) arg10.view (Rect.unit (s := S256x16x384) (k0_off2 (⟨k, hk⟩ : Fin 256)) S1x16x384.size (k0_off2_inb i _ hc2)).toLoadRect X10)
    · intro l
      exact (rowk_read arg11 X11 G11 h11 (k) (by omega) _ _ (k0_off2_eq _) b l).trans (hb l)
    · intro l hl
      exact (congrArg (fun n => E n (2 * l) * C) (by omega : t + k + 1 = t + 1 + k)).trans (he l hl)
    · intro l hl
      refine (rowk_read arg10 X10 G10 h10 (k) (by omega) _ _ (k0_off2_eq _) b l).trans ((ho l hl).trans ?_)
      exact congrArg (fun n => E n (2 * l.val + 1) * C) (by omega : t + k + 1 = t + 1 + k).symm
    · exact (rowk_read arg10 X10 G10 h10 (k) (by omega) _ _ (k0_off2_eq _) b 383).trans hl
    · intro l
      rw [if_pos (by have := hlive k hk; rwa [show t + 1 + k = t + k + 1 by omega] at this)]
      exact pay94 _ _ _ b l
    · intro l
      rw [if_pos (by have := hlive k hk; rwa [show t + 1 + k = t + k + 1 by omega] at this)]
      exact pay95 _ _ _ _ b l

set_option maxHeartbeats 1000000 in
theorem loop3 (hc3 : cond0_3 i) (a : ℕ) (X10 : arg10.view.ty.Contents (Elt Ideal)) (X11 : arg11.view.ty.Contents (Elt Ideal))
    {G10 G11 : S256x16x384.Idx → EReal} (h10 : Holds arg10 X10 G10) (h11 : Holds arg11 X11 G11)
    {E : ℕ → ℕ → EReal} {sk : ℕ → Prop} [DecidablePred sk] {live : ℕ → Prop} [DecidablePred live] {t : ℕ} (b : Fin 16)
    (init : FVec Ideal S16x384 .f32 × FVec Ideal S16x384 .f32)
    (h0 : Rows E sk live t (row init.1 b) (row init.2 b)) (hsk : Lanes sk x1 b) (hT : Tab E b (t + 1) G10 G11)
    (ha : 256 * a = t + 1) (hlive : ∀ k, live k ↔ (BitVec.ofNat 32 k).slt (x2 (ix2 b 0)) = true) (k : ℕ) (hk : k ≤ 256) :
    Rows E sk live (t + k) (row (st_k0_t3 Variants.none c none i arg1 harg1 arg2 harg2 arg3 harg3 arg4 harg4 arg5 harg5 arg6 harg6 arg7 harg7 arg8 harg8 arg9 harg9 arg10 harg10 arg11 harg11 (BitVec.ofNat 32 a) (k0_pay84 x1) x2 hc3 X10 X11 init k).1 b) (row (st_k0_t3 Variants.none c none i arg1 harg1 arg2 harg2 arg3 harg3 arg4 harg4 arg5 harg5 arg6 harg6 arg7 harg7 arg8 harg8 arg9 harg9 arg10 harg10 arg11 harg11 (BitVec.ofNat 32 a) (k0_pay84 x1) x2 hc3 X10 X11 init k).2 b) := by
  induction k with
  | zero => exact h0
  | succ k ih =>
    have hk : k < 256 := hk
    obtain ⟨hb, he, ho, hl⟩ := hT ⟨k, by omega⟩
    have es := st_k0_t3_succ Variants.none c none i arg1 harg1 arg2 harg2 arg3 harg3 arg4 harg4 arg5 harg5 arg6 harg6 arg7 harg7 arg8 harg8 arg9 harg9 arg10 harg10 arg11 harg11 (BitVec.ofNat 32 a) (k0_pay84 x1) x2 hc3 X10 X11 init (⟨k, hk⟩ : Fin 256)
    simp only [] at es
    rw [es]
    unfold tripR_k0_t3 trip_k0_t3
    dsimp only
    sl_unfold_words
    have hi := ih (by omega)
    refine Rows.stepT (e := G11 (ix3 ⟨k, by omega⟩ b 0)) hi hsk ?_ ?_ ?_ ?_ ?_ ?_ (v := View.readAt (Elt Ideal) arg11.view (Rect.unit (s := S256x16x384) (k0_off3 (⟨k, hk⟩ : Fin 256)) S1x16x384.size (k0_off3_inb i _ hc3)).toLoadRect X11)
      (u := View.readAt (Elt Ideal) arg10.view (Rect.unit (s := S256x16x384) (k0_off3 (⟨k, hk⟩ : Fin 256)) S1x16x384.size (k0_off3_inb i _ hc3)).toLoadRect X10)
    · intro l
      exact (rowk_read arg11 X11 G11 h11 (k) (by omega) _ _ (k0_off3_eq _) b l).trans (hb l)
    · intro l hl
      exact (congrArg (fun n => E n (2 * l) * C) (by omega : t + k + 1 = t + 1 + k)).trans (he l hl)
    · intro l hl
      refine (rowk_read arg10 X10 G10 h10 (k) (by omega) _ _ (k0_off3_eq _) b l).trans ((ho l hl).trans ?_)
      exact congrArg (fun n => E n (2 * l.val + 1) * C) (by omega : t + k + 1 = t + 1 + k).symm
    · exact (rowk_read arg10 X10 G10 h10 (k) (by omega) _ _ (k0_off3_eq _) b 383).trans hl
    · intro l
      refine (pay3 _ _ _ _ _ _ b l).trans (if_congr ?_ rfl rfl)
      refine (pay2 a x2 (⟨k, hk⟩ : Fin 256) b ⟨k, hk⟩).trans (Iff.trans ?_ (hlive _).symm)
      rw [show t.add k + 1 = 256 * a + k from (by omega : t + k + 1 = 256 * a + k)]
    · intro l
      refine (pay4 _ _ _ _ _ _ _ b l).trans (if_congr ?_ rfl rfl)
      refine (pay2 a x2 (⟨k, hk⟩ : Fin 256) b ⟨k, hk⟩).trans (Iff.trans ?_ (hlive _).symm)
      rw [show t.add k + 1 = 256 * a + k from (by omega : t + k + 1 = 256 * a + k)]

end Cert.Ctc

end
-- ==== Proof.Model.lean ====
/- The recursion of one sample, over the arguments: the labels of its states, their log-probabilities, the states that
   may be entered from two states before, and the steps below its length. -/
module

public import proofs.«01_k».proof.Proof.Steps

@[expose] public section

set_option maxRecDepth 16384

noncomputable section

namespace Cert.Ctc

open Idealize.ShloMosaic Cert.KernelIdeal Cert.KernelIdeal.Gen

/-- The label of a state: the blank of an even one, a target of an odd one. -/
def lab (tg : S16x256.Idx → BitVec 32) (b : Fin 16) (s : ℕ) : Fin 64 :=
  if h : s % 2 = 1 ∧ s / 2 < 256 then ⟨(tg (ix2 b ⟨s / 2, h.2⟩)).toNat % 64, Nat.mod_lt _ (by decide)⟩ else 0

/-- The log-probability of a state's label at a step. -/
def emit (lg : S16x2048x64.Idx → EReal) (tg : S16x256.Idx → BitVec 32) (b : Fin 16) (t s : ℕ) : EReal :=
  lsm (fun u => lg (ix3 b ⟨t % 2048, Nat.mod_lt _ (by decide)⟩ u)) (lab tg b s)

/-- The states that may be entered from two states before. -/
def jump (tg : S16x256.Idx → BitVec 32) (b : Fin 16) (s : ℕ) : Prop := s % 2 = 1 ∧ 2 ≤ s ∧ lab tg b s ≠ lab tg b (s - 2)

instance (tg : S16x256.Idx → BitVec 32) (b : Fin 16) : DecidablePred (jump tg b) := fun _ => Classical.propDecidable _

/-- The steps below a length. -/
def alive (n : BitVec 32) (t : ℕ) : Prop := (BitVec.ofNat 32 t).slt n = true

instance (n : BitVec 32) : DecidablePred (alive n) := fun _ => Classical.propDecidable _

theorem lab_even (tg : S16x256.Idx → BitVec 32) (b : Fin 16) (l : ℕ) : lab tg b (2 * l) = 0 := dif_neg (by omega)

theorem lab_odd (tg : S16x256.Idx → BitVec 32) (b : Fin 16) (l : Fin 256) (h : (tg (ix2 b l)).toNat < 64) :
    (lab tg b (2 * l.val + 1)).val = (tg (ix2 b l)).toNat := by
  unfold lab
  rw [dif_pos ⟨by omega, by omega⟩]
  have e : (⟨(2 * l.val + 1) / 2, by omega⟩ : Fin 256) = l := Fin.ext (by show (2 * l.val + 1) / 2 = l.val; omega)
  show (tg (ix2 b ⟨(2 * l.val + 1) / 2, _⟩)).toNat % 64 = _
  rw [e, Nat.mod_eq_of_lt h]

theorem hit (tg : S16x256.Idx → BitVec 32) (b : Fin 16) (l : Fin 256) (h : (tg (ix2 b l)).toNat < 64) (v : Fin 64) :
    tg (ix2 b l) = BitVec.ofNat 32 v.val ↔ v = lab tg b (2 * l.val + 1) := by
  rw [Fin.ext_iff, lab_odd tg b l h]
  constructor
  · intro e
    rw [e, BitVec.toNat_ofNat, Nat.mod_eq_of_lt (by omega)]
  · intro e
    apply BitVec.eq_of_toNat_eq
    rw [e, BitVec.toNat_ofNat, Nat.mod_eq_of_lt (by omega)]

/-- The two tables a point builds hold the log-probabilities of its steps. -/
theorem tab (lg : S16x2048x64.Idx → EReal) (tg : S16x256.Idx → BitVec 32) (b : Fin 16) (n : ℕ) (hn : n < 8)
    (x4 : Vec Ideal S16x256x64 .f32)
    (hx : ∀ (k : Fin 256) (u : Fin 64), x4 (ix3 b k u) = lg (ix3 b ⟨256 * n + k.val, by omega⟩ u))
    (htg : ∀ l : Fin 256, (tg (ix2 b l)).toNat < 64) :
    Tab (emit lg tg b) b (256 * n) (elT (k0_pay26 x4) (ohT tg)) (ebT (k0_pay26 x4)) := by
  intro k
  have hp : ∀ v : Fin 64, k0_pay26 x4 (ix3 b k v) = lsm (fun u => lg (ix3 b ⟨(256 * n + k.val) % 2048, Nat.mod_lt _ (by decide)⟩ u)) v * C := by
    intro v
    rw [pay26]
    congr 2
    funext u
    rw [hx]
    congr 2
    exact Fin.ext (Nat.mod_eq_of_lt (by omega)).symm
  refine ⟨fun l => rfl, fun l hl => ?_, fun l hl => ?_, dif_neg (by show ¬ 383 < 256; omega)⟩
  · show _ = k0_pay26 x4 (ix3 b k 0)
    rw [hp, emit, lab_even]
  · show (if h : l.val < 256 then ∑ v : Fin 64, k0_pay26 x4 (ix3 b k v) * ohT tg (ix3 b v ⟨l.val, h⟩) else ⊥) = _
    rw [dif_pos hl, Finset.sum_eq_single (lab tg b (2 * l.val + 1))]
    · have e : ohT tg (ix3 b (lab tg b (2 * l.val + 1)) ⟨l.val, hl⟩) = 1 := if_pos ((hit tg b ⟨l.val, hl⟩ (htg _) _).mpr rfl)
      rw [e, mul_one, hp, emit]
    · intro v _ hv
      have e : ohT tg (ix3 b v ⟨l.val, hl⟩) = 0 := if_neg fun h => hv ((hit tg b ⟨l.val, hl⟩ (htg _) _).mp h)
      rw [e, mul_zero]
    · intro h
      exact absurd (Finset.mem_univ _) h

/-- What the kernel and the reference return for a sample. -/
def loss (lg : S16x2048x64.Idx → EReal) (tg : S16x256.Idx → BitVec 32) (n : BitVec 32) (b : Fin 16) (N : ℕ) : EReal :=
  0 - lse2 (alpha (emit lg tg b) (jump tg b) (alive n) 2047 (2 * N)) (alpha (emit lg tg b) (jump tg b) (alive n) 2047 (2 * N - 1))

/-- The result of the last point, read off its rows. -/
theorem last (lg : S16x2048x64.Idx → EReal) (tg : S16x256.Idx → BitVec 32) (w : BitVec 32) (b : Fin 16)
    (x y : Vec Ideal S16x384 .f32) (n : Vec Ideal S16x1 .i32)
    (h : Rows (emit lg tg b) (jump tg b) (alive w) 2047 (row x b) (row y b)) (l : Fin 128) (N : ℕ) (hN : 1 ≤ N) (hN' : N ≤ 256)
    (hn : n (ix2 b 0) = BitVec.ofNat 32 N) : k0_pay7 x y n (ix2 b l) = loss lg tg w b N := by
  rw [pay7 x y n b l N hN hN' hn, h.even N hN', h.odd (N - 1) (by omega), show 2 * (N - 1) + 1 = 2 * N - 1 by omega, lse2C_scaled,
    loss]
  generalize lse2 _ _ = z
  calc (0 - z * C) * D = (0 * C - z * C) * D := by rw [zero_mul]
    _ = (0 - z) * C * D := by rw [sub_mul_C]
    _ = 0 - z := mul_C_D _

end Cert.Ctc

end
-- ==== Proof.RefStep.lean ====
/- One trip of the reference's loop at an index. -/
module

public import proofs.«01_k».proof.Proof.Model
public import proofs.«01_k».proof.Proof.Gen.ReferenceIdeal.Run
public import Idealize.ShloMosaic.Lib.Pointwise

@[expose] public section

set_option maxRecDepth 65536

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

variable (X : Valuation τ sig (Elt Ideal))

theorem ofBits_bot : Ideal.ofBits FTy.f32 4286578688#32 = (⊥ : EReal) := rfl

/-- The states' values on all naturals. -/
def st (x : S16x513.Idx → EReal) (b : Fin 16) (s : ℕ) : EReal := if h : s < 513 then x (ix2 b ⟨s, h⟩) else ⊥

theorem v48_at (b : Fin 16) (s : Fin 513) :
    (res_main_while0b_v48 X : S16x513.Idx → EReal) (ix2 b s) = prev1 (st (X (Proc.devRef .tc main_v21_5)) b) s.val := by
  pointwise [res_main_while0b_v48]
  unfold prev1 st
  rw [ofBits_bot]
  by_cases h : s.val = 0
  · rw [if_pos h, dif_pos (by omega)]
  · rw [if_neg h, dif_neg (by omega), dif_pos (by omega)]

theorem v52_at (b : Fin 16) (s : Fin 513) :
    (res_main_while0b_v52 X : S16x513.Idx → EReal) (ix2 b s)
      = if (X (Proc.devRef .tc main_v21_0) : S16x513.Idx → BitVec 1) (ix2 b s) = 1#1 then prev2 (st (X (Proc.devRef .tc main_v21_5)) b) s.val else ⊥ := by
  pointwise [res_main_while0b_v52]
  show (if (X (Proc.devRef .tc main_v21_0) : S16x513.Idx → BitVec 1) (ix2 b s) = 1#1 then _ else Ideal.ofBits FTy.f32 4286578688#32) = _
  rw [ofBits_bot]
  refine if_congr Iff.rfl ?_ rfl
  unfold prev2 st
  by_cases h : s.val < 2
  · rw [if_pos h, dif_pos h]
  · rw [if_neg h, dif_neg h, dif_pos (by omega)]

theorem slice_at (e : S16x2048x513.Idx → EReal) (f : Fin 3 → ℤ) (t : ℕ) (ht : t < 2048) (h0 : f 0 = 0) (h1 : f 1 = t) (h2 : f 2 = 0)
    (b : Fin 16) (s : Fin 513) :
    shapeCast S16x513 (Host.dynamicSlice S16x1x513 e f sliceFits_S16x2048x513_S16x1x513) shapeCasts_S16x1x513_S16x513 (ix2 b s) = e (ix3 b ⟨t, ht⟩ s) := by
  pointwise
  refine congrArg e ?_
  have c0 : Host.clampedStart S16x2048x513 S16x1x513 rfl f 0 = 0 := by unfold Host.clampedStart; rw [h0]; rfl
  have c1 : Host.clampedStart S16x2048x513 S16x1x513 rfl f 1 = t := by
    unfold Host.clampedStart
    rw [h1]
    show (min (max (t : ℤ) 0) ((2047 : ℕ) : ℤ)).toNat = t
    omega
  have c2 : Host.clampedStart S16x2048x513 S16x1x513 rfl f 2 = 0 := by unfold Host.clampedStart; rw [h2]; rfl
  congr 1 <;> refine Fin.ext ?_
  · exact (congrArg (· + b.val) c0).trans (Nat.zero_add _)
  · exact c1
  · exact (congrArg (· + s.val) c2).trans (Nat.zero_add _)

theorem toInt_small (t : ℕ) (ht : t < 2048) : (BitVec.ofNat 32 t).toInt = t := by
  rw [BitVec.toInt_eq_toNat_cond, BitVec.toNat_ofNat, Nat.mod_eq_of_lt (by omega), if_pos (by omega)]

theorem step_at (b : Fin 16) (s : Fin 513) (t : ℕ) (ht : t < 2048) (h : (X (Proc.devRef .tc main_v21_4) : S_.Idx → BitVec 32) = fun _ => BitVec.ofNat 32 t) :
    (step_main_v21_5 X : S16x513.Idx → EReal) (ix2 b s)
      = if (BitVec.ofNat 32 t).slt ((X (Proc.devRef .tc main_v21_2) : S16.Idx → BitVec 32) (ix1 b)) = true then
          lse3 ((X (Proc.devRef .tc main_v21_5) : S16x513.Idx → EReal) (ix2 b s)) (prev1 (st (X (Proc.devRef .tc main_v21_5)) b) s.val)
            (if (X (Proc.devRef .tc main_v21_0) : S16x513.Idx → BitVec 1) (ix2 b s) = 1#1 then prev2 (st (X (Proc.devRef .tc main_v21_5)) b) s.val else ⊥)
            + (X (Proc.devRef .tc main_v21_1) : S16x2048x513.Idx → EReal) (ix3 b ⟨t, ht⟩ s)
        else (X (Proc.devRef .tc main_v21_5) : S16x513.Idx → EReal) (ix2 b s) := by
  unfold step_main_v21_5
  simp only [id_eq]
  generalize hE : shapeCast S16x513 (Host.dynamicSlice S16x1x513 _ _ _) _ = Y
  have hY : Y (ix2 b s) = (X (Proc.devRef .tc main_v21_1) : S16x2048x513.Idx → EReal) (ix3 b ⟨t, ht⟩ s) := by
    rw [← hE]
    refine slice_at _ _ t ht rfl ?_ rfl b s
    have h65 : (res_main_while0b_v65 X : S_.Idx → BitVec 32) = fun _ => BitVec.ofNat 32 t := h
    show (Scalar.select (IntOp.cmpi .slt ((res_main_while0b_v65 X : S_.Idx → BitVec 32) _) 0#32) (IntOp.addi ((res_main_while0b_v65 X : S_.Idx → BitVec 32) _) 2048#32) ((res_main_while0b_v65 X : S_.Idx → BitVec 32) _)).toInt = (t : ℤ)
    rw [h65]
    have hn : IntOp.cmpi .slt (BitVec.ofNat 32 t) 0#32 = 0#1 := by
      show BitVec.ofBool ((BitVec.ofNat 32 t).slt 0#32) = 0#1
      rw [BitVec.slt, toInt_small t ht, decide_eq_false (by show ¬ (t : ℤ) < 0; omega)]
      rfl
    show (Scalar.select (IntOp.cmpi .slt (BitVec.ofNat 32 t) 0#32) (IntOp.addi (BitVec.ofNat 32 t) 2048#32) (BitVec.ofNat 32 t)).toInt = (t : ℤ)
    rw [hn]
    exact toInt_small t ht
  have h54 : (res_main_while0b_v54 X : S16x513.Idx → EReal) (ix2 b s)
      = max (α := EReal) (max (α := EReal) ((X (Proc.devRef .tc main_v21_5) : S16x513.Idx → EReal) (ix2 b s)) ((res_main_while0b_v48 X : S16x513.Idx → EReal) (ix2 b s)))
          ((res_main_while0b_v52 X : S16x513.Idx → EReal) (ix2 b s)) := rfl
  pointwise
  rw [hY, h54, v48_at, v52_at, h]
  show (if BitVec.ofBool ((BitVec.ofNat 32 t).slt _) = 1#1 then _ else _) = _
  refine if_congr ?_ rfl rfl
  cases (BitVec.ofNat 32 t).slt ((X (Proc.devRef .tc main_v21_2) : S16.Idx → BitVec 32) (ix1 b)) <;> decide

/-- The gather of the labels' entries, read at an index. -/
theorem gather_labels {α : Type} (x : S16x2048x64.Idx → α) (idx : IVec S16x513x1 32) (b : Fin 16) (t : Fin 2048) (s : Fin 513) (n : Fin 64)
    (h : idx (ix3 b s 0) = BitVec.ofNat 32 n.val) :
    Host.gather gather_S16x2048x64_S16x513x1_S16x2048x513_1_2_0_0_2_2_120481 x idx (ix3 b t s) = x (ix3 b t n) := by
  refine congrArg x ?_
  funext a
  refine Fin.ext ?_
  match a with
  | ⟨0, _⟩ => exact Nat.zero_add b.val
  | ⟨1, _⟩ => exact Nat.zero_add t.val
  | ⟨2, _⟩ =>
    have hi : gather_S16x2048x64_S16x513x1_S16x2048x513_1_2_0_0_2_2_120481.siIdx (ix3 b t s) ⟨0, by decide⟩ = ix3 b s 0 := by
      funext a
      refine Fin.ext ?_
      match a with
      | ⟨0, _⟩ => rfl
      | ⟨1, _⟩ => rfl
      | ⟨2, _⟩ => rfl
    show min (idx (gather_S16x2048x64_S16x513x1_S16x2048x513_1_2_0_0_2_2_120481.siIdx (ix3 b t s) ⟨0, by decide⟩)).toInt.toNat (64 - 1) = n.val
    rw [hi, h, toInt_small _ (by omega), Int.toNat_natCast]
    omega

/-- The gather of a state's value, read at an index. -/
theorem gather_state {α : Type} (x : S16x513.Idx → α) (idx : IVec S16x1x1 32) (b : Fin 16) (n : Fin 513)
    (h : idx (ix3 b 0 0) = BitVec.ofNat 32 n.val) :
    Host.gather gather_S16x513_S16x1x1_S16x1_n_1_0_0_1_2_11 x idx (ix2 b 0) = x (ix2 b n) := by
  refine congrArg x ?_
  funext a
  refine Fin.ext ?_
  match a with
  | ⟨0, _⟩ => exact Nat.zero_add b.val
  | ⟨1, _⟩ =>
    have hi : gather_S16x513_S16x1x1_S16x1_n_1_0_0_1_2_11.siIdx (ix2 b 0) ⟨0, by decide⟩ = ix3 b 0 0 := by
      funext a
      refine Fin.ext ?_
      match a with
      | ⟨0, _⟩ => rfl
      | ⟨1, _⟩ => rfl
      | ⟨2, _⟩ => rfl
    show min (idx (gather_S16x513_S16x1x1_S16x1_n_1_0_0_1_2_11.siIdx (ix2 b 0) ⟨0, by decide⟩)).toInt.toNat (513 - 1) = n.val
    rw [hi, h, toInt_small _ (by omega), Int.toNat_natCast]
    omega

end Cert.Ctc

end
-- ==== Proof.RefEntry.lean ====
/- What the reference's loop starts from, off the arguments. -/
module

public import proofs.«01_k».proof.Proof.RefStep
public import Idealize.ShloMosaic.Lib.Pointwise

@[expose] public section

set_option maxRecDepth 65536

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

variable (X : Valuation τ sig (Elt Ideal))

/-- The largest of each row of the logits. -/
def tops (x : FVec Ideal S16x2048x64 .f32) : FVec Ideal S16x2048x64 .f32 :=
  broadcastInDim S16x2048x64 ![0, 1, 2] bcast_S16x2048x1_S16x2048x64_0_1_2 (broadcastInDim S16x2048x1 ![0, 1] bcast_S16x2048_S16x2048x1_0_1
    (maximumf (broadcastInDim S16x2048 ![] bcast_S_S16x2048 (constant S_ .f32 0xFF800000#32))
      (Host.reduce FloatOps.maximumf x (constant S_ .f32 0xFF800000#32) reducesTo_S16x2048x64_S16x2048_d2 h_S_)))

/-- The log-probabilities of the logits. -/
def logp (x : FVec Ideal S16x2048x64 .f32) : FVec Ideal S16x2048x64 .f32 :=
  subf (subf x (tops x)) (broadcastInDim S16x2048x64 ![0, 1, 2] bcast_S16x2048x1_S16x2048x64_0_1_2
    (Host.log (broadcastInDim S16x2048x1 ![0, 1] bcast_S16x2048_S16x2048x1_0_1
      (Host.reduceAdd (Host.exp (subf x (tops x))) (constant S_ .f32 0x00000000#32) reducesTo_S16x2048x64_S16x2048_d2 h_S_))))

/-- The states' labels: blanks and targets in turn, and a last blank. -/
def labels (tg : IVec S16x256 32) : IVec S16x513 32 :=
  concatenate S16x513 1 [⟨S16x512, shapeCast S16x512 (concatenate S16x256x2 2
      [⟨S16x256x1, broadcastInDim S16x256x1 ![0, 1] bcast_S16x256_S16x256x1_0_1 (broadcastInDim S16x256 ![] bcast_S_S16x256 (constantI S_ 32 0#32))⟩,
       ⟨S16x256x1, broadcastInDim S16x256x1 ![0, 1] bcast_S16x256_S16x256x1_0_1 tg⟩] concatenates_S16x256x1_S16x256x1_S16x256x2_d2) shapeCasts_S16x256x2_S16x512⟩,
    ⟨S16x1, broadcastInDim S16x1 ![] bcast_S_S16x1 (constantI S_ 32 0#32)⟩] concatenates_S16x512_S16x1_S16x513_d1

/-- The states that may be entered from two states before. -/
def allowed (lb : IVec S16x513 32) : IVec S16x513 1 :=
  andi (cmpi .ne lb (broadcastInDim S16x513 ![] bcast_S_S16x513 (constantI S_ 32 0#32)))
    (cmpi .ne lb (concatenate S16x513 1 [⟨S16x2, broadcastInDim S16x2 ![] bcast_S_S16x2 (constantI S_ 32 4294967295#32)⟩,
      ⟨S16x511, extractStridedSlice S16x511 ![0, 0] lb slices_S16x513_S16x511_0_0⟩] concatenates_S16x2_S16x511_S16x513_d1))

/-- The labels' indices, one below zero counted from the end. -/
def wrapped (lb : IVec S16x513 32) : IVec S16x513x1 32 :=
  shapeCast S16x513x1 (select (cmpi .slt (broadcastInDim S16x1x513 ![0, 2] bcast_S16x513_S16x1x513_0_2 lb) (broadcastInDim S16x1x513 ![] bcast_S_S16x1x513 (constantI S_ 32 0#32)))
    (addi (broadcastInDim S16x1x513 ![0, 2] bcast_S16x513_S16x1x513_0_2 lb) (broadcastInDim S16x1x513 ![] bcast_S_S16x1x513 (constantI S_ 32 64#32)))
    (broadcastInDim S16x1x513 ![0, 2] bcast_S16x513_S16x1x513_0_2 lb)) shapeCasts_S16x1x513_S16x513x1

/-- The log-probabilities of the states' labels. -/
def taken (x : FVec Ideal S16x2048x64 .f32) (ix : IVec S16x513x1 32) : FVec Ideal S16x2048x513 .f32 :=
  select (broadcastInDim S16x2048x513 ![0, 2] bcast_S16x513_S16x2048x513_0_2
      (Host.reduce IntOp.andi (andi (cmpi .sge ix (broadcastInDim S16x513x1 ![] bcast_S_S16x513x1 (constantI S_ 32 0#32)))
        (cmpi .sle ix (broadcastInDim S16x513x1 ![0, 1, 2] bcast_S1x1x1_S16x513x1_0_1_2 (broadcastInDim S1x1x1 ![2] bcast_S1_S1x1x1_2 (constantI S1 32 63#32)))))
        (constantI S_ 1 1#1) reducesTo_S16x513x1_S16x513_d2 h_S_))
    (Host.gather gather_S16x2048x64_S16x513x1_S16x2048x513_1_2_0_0_2_2_120481 x ix)
    (broadcastInDim S16x2048x513 ![] bcast_S_S16x2048x513 (constant S_ .f32 0x7FC00000#32))

/-- The states before the first step. -/
def start (e : FVec Ideal S16x2048x513 .f32) : FVec Ideal S16x513 .f32 :=
  concatenate S16x513 1 [⟨S16x2, shapeCast S16x2 (extractStridedSlice S16x1x2 ![0, 0, 0] e slices_S16x2048x513_S16x1x2_0_0_0) shapeCasts_S16x1x2_S16x2⟩,
    ⟨S16x511, broadcastInDim S16x511 ![] bcast_S_S16x511 (constant S_ .f32 0xFF800000#32)⟩] concatenates_S16x2_S16x511_S16x513_d1

theorem after_v0 : (after hostOps0 X (Proc.devRef .tc main_v0) : S16x2048x64.Idx → EReal) = logp (X (Proc.devRef .tc main_arg0)) := by
  simp only [hostOps0]
  after_results_simp_entrywise
  simp only [TRef.ofBuf_toBuf]
  have e : ∀ (x : main_arg0.ty.Contents (Elt Ideal)), (TRef.of main_arg0 : TRef sig ⟨S16x2048x64, .f32⟩).ofBuf x = x := fun x => rfl
  have e' : ∀ (x : (⟨S16x2048x64, .f32⟩ : BufTy).Contents (Elt Ideal)), (TRef.of main_v0 : TRef sig ⟨S16x2048x64, .f32⟩).toBuf x = @id (main_v0.ty.Contents (Elt Ideal)) x := fun x => rfl
  simp only [e, e', id_eq]
  unfold logp tops
  rfl

theorem after_v14 : (after hostOps0_1 X (Proc.devRef .tc main_v14) : S16x513.Idx → BitVec 1) = allowed (labels (X (Proc.devRef .tc main_arg1))) := by
  unfold allowed labels
  simp only [hostOps0_1]
  after_results_entrywise []

theorem after_v15 : (after hostOps0_1 X (Proc.devRef .tc main_v15) : S16x1x513.Idx → BitVec 32)
    = broadcastInDim S16x1x513 ![0, 2] bcast_S16x513_S16x1x513_0_2 (labels (X (Proc.devRef .tc main_arg1))) := by
  unfold labels
  simp only [hostOps0_1]
  after_results_entrywise []

theorem after_v0_1 : after hostOps0_1 X (Proc.devRef .tc main_v0) = X (Proc.devRef .tc main_v0) :=
  after_of_writes_sub hostOps0_1 X hostOps0_1_writes (by decide +kernel)

theorem after_v14_2 : after hostOps0_2 X (Proc.devRef .tc main_v14) = X (Proc.devRef .tc main_v14) :=
  after_of_writes_sub hostOps0_2 X hostOps0_2_writes (by decide +kernel)

theorem after_v16 (lb : IVec S16x513 32) (h : (X (Proc.devRef .tc main_v15) : S16x1x513.Idx → BitVec 32) = broadcastInDim S16x1x513 ![0, 2] bcast_S16x513_S16x1x513_0_2 lb) :
    (after hostOps0_2 X (Proc.devRef .tc main_v16) : S16x2048x513.Idx → EReal) = taken (X (Proc.devRef .tc main_v0)) (wrapped lb) := by
  unfold taken wrapped
  rw [← h]
  simp only [hostOps0_2]
  after_results_entrywise []

theorem after_3_0 : after hostOps0_3 X (Proc.devRef .tc main_v21_0) = X (Proc.devRef .tc main_v14) := by
  simp only [hostOps0_3]
  after_results_entrywise []

theorem after_3_1 : after hostOps0_3 X (Proc.devRef .tc main_v21_1) = X (Proc.devRef .tc main_v16) := by
  simp only [hostOps0_3]
  after_results_entrywise []

theorem after_3_2 : after hostOps0_3 X (Proc.devRef .tc main_v21_2) = X (Proc.devRef .tc main_arg2) := by
  simp only [hostOps0_3]
  after_results_entrywise []

theorem after_3_4 : (after hostOps0_3 X (Proc.devRef .tc main_v21_4) : S_.Idx → BitVec 32) = fun _ => 1#32 := by
  simp only [hostOps0_3]
  after_results_entrywise []

theorem after_3_5 : (after hostOps0_3 X (Proc.devRef .tc main_v21_5) : S16x513.Idx → EReal) = start (X (Proc.devRef .tc main_v16)) := by
  unfold start
  simp only [hostOps0_3]
  after_results_entrywise []

end Cert.Ctc

end
-- ==== Proof.RefPoints.lean ====
/- The values the reference's loop starts from, point by point. -/
module

public import proofs.«01_k».proof.Proof.RefEntry
public import Idealize.ShloMosaic.Lib.Pointwise

@[expose] public section

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

theorem neg_inf : Ideal.ofBits FTy.f32 4286578688#32 = (⊥ : EReal) := rfl

/-- A table over the classes made of one value for each step reads that value. -/
theorem spread_at (y : FVec Ideal S16x2048 .f32) (b : Fin 16) (t : Fin 2048) (v : Fin 64) :
    (broadcastInDim S16x2048x64 ![0, 1, 2] bcast_S16x2048x1_S16x2048x64_0_1_2 (broadcastInDim S16x2048x1 ![0, 1] bcast_S16x2048_S16x2048x1_0_1 y) : FVec Ideal S16x2048x64 .f32) (ix3 b t v)
      = y (ix2 b t) := by
  pointwise

theorem log_spread_at (y : FVec Ideal S16x2048 .f32) (b : Fin 16) (t : Fin 2048) (v : Fin 64) :
    (broadcastInDim S16x2048x64 ![0, 1, 2] bcast_S16x2048x1_S16x2048x64_0_1_2 (Host.log (broadcastInDim S16x2048x1 ![0, 1] bcast_S16x2048_S16x2048x1_0_1 y)) : FVec Ideal S16x2048x64 .f32) (ix3 b t v)
      = Ideal.log (y (ix2 b t)) := by
  pointwise

theorem most_at (y : FVec Ideal S16x2048 .f32) (b : Fin 16) (t : Fin 2048) :
    (maximumf (broadcastInDim S16x2048 ![] bcast_S_S16x2048 (constant S_ .f32 0xFF800000#32)) y : FVec Ideal S16x2048 .f32) (ix2 b t)
      = max (α := EReal) (Ideal.ofBits FTy.f32 4286578688#32) (y (ix2 b t)) := by
  pointwise

theorem fold_at (x : FVec Ideal S16x2048x64 .f32) (b : Fin 16) (t : Fin 2048) :
    (Host.reduce FloatOps.maximumf x (constant S_ .f32 0xFF800000#32) reducesTo_S16x2048x64_S16x2048_d2 h_S_ : FVec Ideal S16x2048 .f32) (ix2 b t)
      = Finset.univ.fold (max (α := EReal)) (Ideal.ofBits FTy.f32 4286578688#32) (fun u => x (ix3 b t u)) := by
  pointwise

theorem sum_at (x : FVec Ideal S16x2048x64 .f32) (b : Fin 16) (t : Fin 2048) :
    (Host.reduceAdd x (constant S_ .f32 0x00000000#32) reducesTo_S16x2048x64_S16x2048_d2 h_S_ : FVec Ideal S16x2048 .f32) (ix2 b t)
      = ∑ u : Fin 64, x (ix3 b t u) := by
  pointwise

theorem tops_at (x : FVec Ideal S16x2048x64 .f32) (b : Fin 16) (t : Fin 2048) (v : Fin 64) :
    tops x (ix3 b t v) = top (fun u => x (ix3 b t u)) := by
  unfold tops top
  rw [spread_at, most_at, fold_at, neg_inf, max_eq_right bot_le]

theorem logp_at (x : FVec Ideal S16x2048x64 .f32) (b : Fin 16) (t : Fin 2048) (v : Fin 64) :
    logp x (ix3 b t v) = lsm (fun u => x (ix3 b t u)) v := by
  have k := tops_at x b t
  unfold lsm logp
  generalize tops x = y at k ⊢
  generalize top (fun u => x (ix3 b t u)) = z at k ⊢
  have e : ∀ w : FVec Ideal S16x2048x64 .f32, (subf (subf x y) w) (ix3 b t v) = (x (ix3 b t v) - y (ix3 b t v)) - w (ix3 b t v) := fun w => by
    pointwise
  have e' : ∀ u : Fin 64, (Host.exp (subf x y)) (ix3 b t u) = Ideal.exp (x (ix3 b t u) - y (ix3 b t u)) := fun u => by
    pointwise
  rw [e, log_spread_at, sum_at, k]
  simp only [e', k]

theorem labels_at (tg : IVec S16x256 32) (h : ∀ (b : Fin 16) (l : Fin 256), (tg (ix2 b l)).toNat < 64) (b : Fin 16) (s : Fin 513) :
    labels tg (ix2 b s) = BitVec.ofNat 32 (lab tg b s.val).val := by
  have e : labels tg (ix2 b s) = if h : s.val < 512 then if h' : s.val % 2 < 1 then 0#32 else tg (ix2 b ⟨s.val / 2, by omega⟩) else 0#32 := by
    pointwise [labels]
  rw [e]
  unfold lab
  by_cases h1 : s.val < 512
  · rw [dif_pos h1]
    by_cases h2 : s.val % 2 < 1
    · rw [dif_pos h2, dif_neg (by omega)]
      rfl
    · rw [dif_neg h2, dif_pos ⟨by omega, by omega⟩]
      show tg (ix2 b ⟨s.val / 2, _⟩) = BitVec.ofNat 32 ((tg (ix2 b ⟨s.val / 2, _⟩)).toNat % 64)
      rw [Nat.mod_eq_of_lt (h b _), BitVec.ofNat_toNat, BitVec.setWidth_eq]
  · rw [dif_neg h1, dif_neg (by omega)]
    rfl

theorem ofNat_lab (i j : Fin 64) : BitVec.ofNat 32 i.val = BitVec.ofNat 32 j.val ↔ i = j := by
  constructor
  · intro h
    have e := congrArg BitVec.toNat h
    rw [BitVec.toNat_ofNat, BitVec.toNat_ofNat, Nat.mod_eq_of_lt (by omega), Nat.mod_eq_of_lt (by omega)] at e
    exact Fin.ext e
  · rintro rfl
    rfl

theorem allowed_at (tg : IVec S16x256 32) (h : ∀ (b : Fin 16) (l : Fin 256), (tg (ix2 b l)).toNat < 64)
    (h' : ∀ (b : Fin 16) (l : Fin 256), 0 < (tg (ix2 b l)).toNat) (b : Fin 16) (s : Fin 513) (hs : 2 ≤ s.val) :
    allowed (labels tg) (ix2 b s) = 1#1 ↔ jump tg b s.val := by
  have e : allowed (labels tg) (ix2 b s) = IntOp.andi (IntOp.cmpi CmpIPredicate.ne (labels tg (ix2 b s)) 0#32)
      (IntOp.cmpi CmpIPredicate.ne (labels tg (ix2 b s)) (if h : s.val < 2 then 4294967295#32 else labels tg (ix2 b ⟨s.val - 2, by omega⟩))) := by
    pointwise [allowed]
  rw [e, dif_neg (by omega), labels_at tg h, labels_at tg h, show (0#32) = BitVec.ofNat 32 ((0 : Fin 64).val) from rfl]
  have k : ∀ x y z : BitVec 32, IntOp.andi (IntOp.cmpi CmpIPredicate.ne x y) (IntOp.cmpi CmpIPredicate.ne x z) = 1#1 ↔ ¬ x = y ∧ ¬ x = z := by
    intro x y z
    show BitVec.ofBool (x != y) &&& BitVec.ofBool (x != z) = 1#1 ↔ _
    have e : ∀ p q : Bool, BitVec.ofBool p &&& BitVec.ofBool q = 1#1 ↔ p = true ∧ q = true := by decide
    rw [e, bne_iff_ne, bne_iff_ne]
  rw [k, ofNat_lab, ofNat_lab]
  unfold jump
  by_cases ho : s.val % 2 = 1
  · have hl := lab_odd tg b ⟨s.val / 2, by omega⟩ (h b _)
    rw [show 2 * (s.val / 2) + 1 = s.val by omega] at hl
    have hp := h' b ⟨s.val / 2, by omega⟩
    have hn : lab tg b s.val ≠ 0 := fun hz => by rw [hz] at hl; rw [← hl] at hp; exact absurd hp (by decide)
    exact ⟨fun q => ⟨ho, hs, q.2⟩, fun q => ⟨hn, q.2.2⟩⟩
  · have hl := lab_even tg b (s.val / 2)
    rw [show 2 * (s.val / 2) = s.val by omega] at hl
    exact ⟨fun q => absurd hl q.1, fun q => absurd q.1 ho⟩

theorem word_range (n : ℕ) (hn : n < 2048) : IntOp.cmpi CmpIPredicate.slt (BitVec.ofNat 32 n) 0#32 = 0#1
    ∧ IntOp.cmpi CmpIPredicate.sge (BitVec.ofNat 32 n) 0#32 = 1#1 := by
  have e : (BitVec.ofNat 32 n).toInt = n := by
    rw [BitVec.toInt_eq_toNat_cond, BitVec.toNat_ofNat, Nat.mod_eq_of_lt (by omega), if_pos (by omega)]
  constructor
  · show BitVec.ofBool ((BitVec.ofNat 32 n).slt 0#32) = 0#1
    rw [BitVec.slt, e, decide_eq_false (by show ¬ (n : ℤ) < 0; omega)]
    rfl
  · show BitVec.ofBool ((0#32 : BitVec 32).sle (BitVec.ofNat 32 n)) = 1#1
    rw [BitVec.sle, e, decide_eq_true (by show (0 : ℤ) ≤ n; omega)]
    rfl

theorem word_le (n k : ℕ) (h : n ≤ k) (hk : k < 2048) : IntOp.cmpi CmpIPredicate.sle (BitVec.ofNat 32 n) (BitVec.ofNat 32 k) = 1#1 := by
  show BitVec.ofBool ((BitVec.ofNat 32 n).sle (BitVec.ofNat 32 k)) = 1#1
  rw [BitVec.sle, BitVec.toInt_eq_toNat_cond, BitVec.toInt_eq_toNat_cond, BitVec.toNat_ofNat, BitVec.toNat_ofNat, Nat.mod_eq_of_lt (by omega),
    Nat.mod_eq_of_lt (by omega), if_pos (by omega), if_pos (by omega), decide_eq_true (by omega)]
  rfl

theorem wrapped_at (lb : IVec S16x513 32) (b : Fin 16) (s : Fin 513) (n : Fin 64) (h : lb (ix2 b s) = BitVec.ofNat 32 n.val) :
    wrapped lb (ix3 b s 0) = BitVec.ofNat 32 n.val := by
  pointwise [wrapped]
  rw [h, (word_range n.val (by omega)).1]
  rfl

theorem taken_at (x : FVec Ideal S16x2048x64 .f32) (ix : IVec S16x513x1 32) (b : Fin 16) (t : Fin 2048) (s : Fin 513) (n : Fin 64)
    (h : ix (ix3 b s 0) = BitVec.ofNat 32 n.val) : taken x ix (ix3 b t s) = x (ix3 b t n) := by
  pointwise [taken]
  rw [gather_labels x ix b t s n h]
  have e : (Finset.fold IntOp.andi (1#1) (fun k : Fin 1 => IntOp.andi (IntOp.cmpi CmpIPredicate.sge (ix (ix3 b s k)) 0#32)
      (IntOp.cmpi CmpIPredicate.sle (ix (ix3 b s k)) 63#32)) Finset.univ) = 1#1 := by
    rw [Finset.univ_unique, Finset.fold_singleton, show (default : Fin 1) = 0 from rfl, h, (word_range n.val (by omega)).2,
      show (63#32) = BitVec.ofNat 32 63 from rfl, word_le n.val 63 (by omega) (by omega)]
    rfl
  exact if_pos e

theorem start_at (e : FVec Ideal S16x2048x513 .f32) (b : Fin 16) (s : Fin 513) :
    start e (ix2 b s) = if s.val < 2 then e (ix3 b 0 s) else ⊥ := by
  have k : start e (ix2 b s) = if h : s.val < 2 then e (ix3 b 0 s) else Ideal.ofBits FTy.f32 4286578688#32 := by
    pointwise [start]
  rw [k, neg_inf]
  rfl

end Cert.Ctc

end
-- ==== Proof.RefLoop.lean ====
/- The reference's loop: after each trip its states are the recursion's. -/
module

public import proofs.«01_k».proof.Proof.RefPoints
public import Idealize.ShloMosaic.Lib.Pointwise

@[expose] public section

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

variable (m : (ℓ : Loc nD τ sig) → Buf (Elt Ideal) ℓ)

theorem entry_0 (c : Dev nD) : (entryContents preI m c (Proc.devRef .tc main_v21_0) : S16x513.Idx → BitVec 1)
    = allowed (labels (m ((c.tc : Thread nD τ).loc main_arg1))) := by
  simp only [entryContents, preI, afterL_cons, afterL_nil]
  rw [after_3_0, after_v14_2, after_v14, keep_main_arg1_hostOps0]

theorem entry_v16 (c : Dev nD) :
    (after hostOps0_2 (after hostOps0_1 (after hostOps0 fun b => m (c, b))) (Proc.devRef .tc main_v16) : S16x2048x513.Idx → EReal)
      = taken (logp (m ((c.tc : Thread nD τ).loc main_arg0))) (wrapped (labels (m ((c.tc : Thread nD τ).loc main_arg1)))) := by
  rw [after_v16 _ (labels (m ((c.tc : Thread nD τ).loc main_arg1))), after_v0_1, after_v0]
  rw [after_v15, keep_main_arg1_hostOps0]

theorem entry_1 (c : Dev nD) : (entryContents preI m c (Proc.devRef .tc main_v21_1) : S16x2048x513.Idx → EReal)
    = taken (logp (m ((c.tc : Thread nD τ).loc main_arg0))) (wrapped (labels (m ((c.tc : Thread nD τ).loc main_arg1)))) := by
  simp only [entryContents, preI, afterL_cons, afterL_nil]
  rw [after_3_1, entry_v16]

theorem entry_2 (c : Dev nD) : entryContents preI m c (Proc.devRef .tc main_v21_2) = m ((c.tc : Thread nD τ).loc main_arg2) := by
  simp only [entryContents, preI, afterL_cons, afterL_nil]
  rw [after_3_2, keep_main_arg2_hostOps0_2, keep_main_arg2_hostOps0_1, keep_main_arg2_hostOps0]

theorem entry_4 (c : Dev nD) : (entryContents preI m c (Proc.devRef .tc main_v21_4) : S_.Idx → BitVec 32) = fun _ => 1#32 := by
  simp only [entryContents, preI, afterL_cons, afterL_nil]
  rw [after_3_4]

theorem entry_5 (c : Dev nD) : (entryContents preI m c (Proc.devRef .tc main_v21_5) : S16x513.Idx → EReal)
    = start (taken (logp (m ((c.tc : Thread nD τ).loc main_arg0))) (wrapped (labels (m ((c.tc : Thread nD τ).loc main_arg1))))) := by
  simp only [entryContents, preI, afterL_cons, afterL_nil]
  rw [after_3_5, entry_v16]

/-- What the loop reads at each step is the log-probability of each state's label. -/
theorem emit_at (lg : S16x2048x64.Idx → EReal) (tg : S16x256.Idx → BitVec 32) (h : ∀ (b : Fin 16) (l : Fin 256), (tg (ix2 b l)).toNat < 64)
    (b : Fin 16) (t : Fin 2048) (s : Fin 513) :
    taken (logp lg) (wrapped (labels tg)) (ix3 b t s) = emit lg tg b t.val s.val := by
  rw [taken_at _ _ b t s (lab tg b s.val) (wrapped_at _ b s _ (labels_at tg h b s)), logp_at]
  unfold emit
  have e : (⟨t.val % 2048, Nat.mod_lt _ (by decide)⟩ : Fin 2048) = t := Fin.ext (Nat.mod_eq_of_lt t.isLt)
  rw [e]

/-- What a trip keeps and makes, from the recursion's states after a step to those after the next. -/
structure Trip (lg : S16x2048x64.Idx → EReal) (tg : S16x256.Idx → BitVec 32) (il : S16.Idx → BitVec 32) (k : ℕ) (X : Valuation τ sig (Elt Ideal)) : Prop where
  skip : (X (Proc.devRef .tc main_v21_0) : S16x513.Idx → BitVec 1) = allowed (labels tg)
  emits : (X (Proc.devRef .tc main_v21_1) : S16x2048x513.Idx → EReal) = taken (logp lg) (wrapped (labels tg))
  len : (X (Proc.devRef .tc main_v21_2) : S16.Idx → BitVec 32) = il
  count : (X (Proc.devRef .tc main_v21_4) : S_.Idx → BitVec 32) = fun _ => BitVec.ofNat 32 (k + 1)
  states : ∀ (b : Fin 16) (s : Fin 513), (X (Proc.devRef .tc main_v21_5) : S16x513.Idx → EReal) (ix2 b s)
    = alpha (emit lg tg b) (jump tg b) (alive (il (ix1 b))) k s.val

section
variable {lg : S16x2048x64.Idx → EReal} {tg : S16x256.Idx → BitVec 32} {il : S16.Idx → BitVec 32}

theorem Trip.st_eq {k : ℕ} {X : Valuation τ sig (Elt Ideal)} (T : Trip lg tg il k X) (b : Fin 16) (s : ℕ) (hs : s < 513) :
    st (X (Proc.devRef .tc main_v21_5)) b s = alpha (emit lg tg b) (jump tg b) (alive (il (ix1 b))) k s := by
  unfold st
  rw [dif_pos hs]
  exact T.states b ⟨s, hs⟩

theorem Trip.next {k : ℕ} {X : Valuation τ sig (Elt Ideal)} (T : Trip lg tg il k X) (hk : k + 1 < 2048)
    (h : ∀ (b : Fin 16) (l : Fin 256), (tg (ix2 b l)).toNat < 64) (h' : ∀ (b : Fin 16) (l : Fin 256), 0 < (tg (ix2 b l)).toNat) :
    Trip lg tg il (k + 1) (STEP X) := by
  refine ⟨(STEP_main_v21_0 X).trans T.skip, (STEP_main_v21_1 X).trans T.emits, (STEP_main_v21_2 X).trans T.len, ?_, fun b s => ?_⟩
  · refine (STEP_main_v21_4 X).trans ?_
    funext i
    have e : ∀ v : S_.Idx → BitVec 32, v = (fun _ => BitVec.ofNat 32 (k + 1)) → v i + 1#32 = BitVec.ofNat 32 (k + 1 + 1) := by
      rintro v rfl
      exact (BitVec.ofNat_add (n := 32) (k + 1) 1).symm
    exact e _ T.count
  · rw [STEP_main_v21_5, step_at X b s (k + 1) hk T.count, T.emits, T.len, T.skip, emit_at lg tg h, T.states]
    have p1 : prev1 (st (X (Proc.devRef .tc main_v21_5)) b) s.val = prev1 (alpha (emit lg tg b) (jump tg b) (alive (il (ix1 b))) k) s.val := by
      unfold prev1
      by_cases hs : s.val = 0
      · rw [if_pos hs, if_pos hs]
      · rw [if_neg hs, if_neg hs, T.st_eq b _ (by omega)]
    have p2 : (if allowed (labels tg) (ix2 b s) = 1#1 then prev2 (st (X (Proc.devRef .tc main_v21_5)) b) s.val else ⊥)
        = if jump tg b s.val then prev2 (alpha (emit lg tg b) (jump tg b) (alive (il (ix1 b))) k) s.val else ⊥ := by
      unfold prev2
      by_cases hs : s.val < 2
      · rw [if_pos hs, if_pos hs, ite_self, ite_self]
      · rw [if_neg hs, if_neg hs, T.st_eq b _ (by omega)]
        exact if_congr (allowed_at tg h h' b s (by omega)) rfl rfl
    rw [p1, p2, alpha]
    exact if_congr Iff.rfl rfl rfl

/-- After `k` trips the states are the recursion's after step `k`. -/
theorem Trip.iter {X : Valuation τ sig (Elt Ideal)} (T : Trip lg tg il 0 X)
    (h : ∀ (b : Fin 16) (l : Fin 256), (tg (ix2 b l)).toNat < 64) (h' : ∀ (b : Fin 16) (l : Fin 256), 0 < (tg (ix2 b l)).toNat) :
    ∀ k, k < 2048 → Trip lg tg il k (STEP^[k] X)
  | 0, _ => T
  | k + 1, hk => by
    rw [Function.iterate_succ_apply']
    exact (Trip.iter T h h' k (by omega)).next hk h h'

end

/-- The loop starts from the recursion's states at step zero. -/
theorem first (c : Dev nD) (h : ∀ (b : Fin 16) (l : Fin 256), ((m ((c.tc : Thread nD τ).loc main_arg1) : S16x256.Idx → BitVec 32) (ix2 b l)).toNat < 64) :
    Trip (m ((c.tc : Thread nD τ).loc main_arg0)) (m ((c.tc : Thread nD τ).loc main_arg1)) (m ((c.tc : Thread nD τ).loc main_arg2)) 0 (entryContents preI m c) := by
  refine ⟨entry_0 m c, entry_1 m c, entry_2 m c, entry_4 m c, fun b s => ?_⟩
  rw [entry_5, start_at, emit_at _ _ h]
  rfl

end Cert.Ctc

end
-- ==== Proof.RefOut.lean ====
/- What the reference returns, off the states its loop ends at. -/
module

public import proofs.«01_k».proof.Proof.RefPoints
public import Idealize.ShloMosaic.Lib.Pointwise

@[expose] public section

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

/-- A state's index for each sample, one below zero counted from the end. -/
def wrap (w : IVec S16 32) : IVec S16x1x1 32 :=
  shapeCast S16x1x1 (select (cmpi .slt (broadcastInDim S16x1 ![0] bcast_S16_S16x1_0 w) (broadcastInDim S16x1 ![] bcast_S_S16x1 (constantI S_ 32 0#32)))
    (addi (broadcastInDim S16x1 ![0] bcast_S16_S16x1_0 w) (broadcastInDim S16x1 ![] bcast_S_S16x1 (constantI S_ 32 513#32)))
    (broadcastInDim S16x1 ![0] bcast_S16_S16x1_0 w)) shapeCasts_S16x1_S16x1x1

/-- Each sample's state at an index. -/
def pick (x : FVec Ideal S16x513 .f32) (w : IVec S16 32) : FVec Ideal S16 .f32 :=
  shapeCast S16 (select (Host.reduce IntOp.andi (andi (cmpi .sge (wrap w) (broadcastInDim S16x1x1 ![] bcast_S_S16x1x1 (constantI S_ 32 0#32)))
      (cmpi .sle (wrap w) (broadcastInDim S16x1x1 ![0, 1, 2] bcast_S1x1x1_S16x1x1_0_1_2 (broadcastInDim S1x1x1 ![2] bcast_S1_S1x1x1_2 (constantI S1 32 512#32)))))
      (constantI S_ 1 1#1) reducesTo_S16x1x1_S16x1_d2 h_S_)
    (Host.gather gather_S16x513_S16x1x1_S16x1_n_1_0_0_1_2_11 x (wrap w)) (broadcastInDim S16x1 ![] bcast_S_S16x1 (constant S_ .f32 0x7FC00000#32))) shapeCasts_S16x1_S16

/-- The negated log of the sum of two exponentials, over the lanes. -/
def finish (x y : FVec Ideal S16 .f32) : FVec Ideal S16x128 .f32 :=
  broadcastInDim S16x128 ![0, 1] bcast_S16x1_S16x128_0_1 (Host.negf (broadcastInDim S16x1 ![0] bcast_S16_S16x1_0
    (addf (maximumf x y) (Host.log (addf (Host.exp (subf x (maximumf x y))) (Host.exp (subf y (maximumf x y))))))))

/-- Twice a word. -/
def twice (w : IVec S16 32) : IVec S16 32 := muli (broadcastInDim S16 ![] bcast_S_S16 (constantI S_ 32 2#32)) w

/-- A word less one. -/
def less (w : IVec S16 32) : IVec S16 32 := subi w (broadcastInDim S16 ![] bcast_S_S16 (constantI S_ 32 1#32))

theorem out_eq (X : Valuation τ sig (Elt Ideal)) : (out_main_v44 X : S16x128.Idx → EReal)
    = finish (pick (X (Proc.devRef .tc main_v21_5)) (twice (X (Proc.devRef .tc main_arg3))))
        (pick (X (Proc.devRef .tc main_v21_5)) (less (twice (X (Proc.devRef .tc main_arg3))))) := by
  unfold out_main_v44 finish pick wrap less twice
  rfl

theorem wrap_at (w : IVec S16 32) (b : Fin 16) (n : Fin 513) (h : w (ix1 b) = BitVec.ofNat 32 n.val) :
    wrap w (ix3 b 0 0) = BitVec.ofNat 32 n.val := by
  have e : wrap w (ix3 b 0 0) = Scalar.select (IntOp.cmpi CmpIPredicate.slt (w (ix1 b)) 0#32) (IntOp.addi (w (ix1 b)) 513#32) (w (ix1 b)) := by
    pointwise [wrap]
  rw [e, h, (word_range n.val (by omega)).1]
  rfl

theorem inside_at (v : IVec S16x1x1 32) (b : Fin 16) (n : Fin 513) (h : v (ix3 b 0 0) = BitVec.ofNat 32 n.val) :
    (Host.reduce IntOp.andi (andi (cmpi .sge v (broadcastInDim S16x1x1 ![] bcast_S_S16x1x1 (constantI S_ 32 0#32)))
      (cmpi .sle v (broadcastInDim S16x1x1 ![0, 1, 2] bcast_S1x1x1_S16x1x1_0_1_2 (broadcastInDim S1x1x1 ![2] bcast_S1_S1x1x1_2 (constantI S1 32 512#32)))))
      (constantI S_ 1 1#1) reducesTo_S16x1x1_S16x1_d2 h_S_ : IVec S16x1 1) (ix2 b 0) = 1#1 := by
  pointwise
  rw [Finset.univ_unique, Finset.fold_singleton, show (default : Fin 1) = 0 from rfl, h, (word_range n.val (by omega)).2,
    show (512#32) = BitVec.ofNat 32 512 from rfl, word_le n.val 512 (by omega) (by omega)]
  rfl

theorem choose_at (p : IVec S16x1 1) (x y : FVec Ideal S16x1 .f32) (b : Fin 16) :
    (shapeCast S16 (select p x y) shapeCasts_S16x1_S16 : FVec Ideal S16 .f32) (ix1 b) = Scalar.select (p (ix2 b 0)) (x (ix2 b 0)) (y (ix2 b 0)) := by
  pointwise

theorem pick_at (x : FVec Ideal S16x513 .f32) (w : IVec S16 32) (b : Fin 16) (n : Fin 513) (h : w (ix1 b) = BitVec.ofNat 32 n.val) :
    pick x w (ix1 b) = x (ix2 b n) := by
  have e := wrap_at w b n h
  unfold pick
  rw [choose_at, inside_at (wrap w) b n e, gather_state x (wrap w) b n e]
  rfl

theorem finish_at (x y : FVec Ideal S16 .f32) (b : Fin 16) (l : Fin 128) : finish x y (ix2 b l) = 0 - lse2 (x (ix1 b)) (y (ix1 b)) := by
  have e : finish x y (ix2 b l) = - lse2 (x (ix1 b)) (y (ix1 b)) := by
    unfold lse2
    pointwise [finish]
  rw [e, zero_sub]

theorem twice_at (w : IVec S16 32) (b : Fin 16) : twice w (ix1 b) = BitVec.ofNat 32 (2 * (w (ix1 b)).toNat) := by
  have e : twice w (ix1 b) = 2#32 * w (ix1 b) := by
    pointwise [twice]
    rfl
  rw [e]
  apply BitVec.eq_of_toNat_eq
  rw [BitVec.toNat_mul, BitVec.toNat_ofNat, BitVec.toNat_ofNat]

theorem less_at (w : IVec S16 32) (b : Fin 16) (n : ℕ) (hn : 1 ≤ n) (h : w (ix1 b) = BitVec.ofNat 32 n) : less w (ix1 b) = BitVec.ofNat 32 (n - 1) := by
  have e : less w (ix1 b) = w (ix1 b) - 1#32 := by
    pointwise [less]
    rfl
  rw [e, h]
  apply BitVec.eq_of_toNat_eq
  rw [BitVec.toNat_sub, BitVec.toNat_ofNat, BitVec.toNat_ofNat, BitVec.toNat_ofNat]
  omega

/-- The returned value, off the two last states of each sample. -/
theorem out_at (X : Valuation τ sig (Elt Ideal)) (b : Fin 16) (l : Fin 128) (N : ℕ) (hN : 1 ≤ N) (hN' : N ≤ 256)
    (h : ((X (Proc.devRef .tc main_arg3) : S16.Idx → BitVec 32) (ix1 b)).toNat = N) :
    (out_main_v44 X : S16x128.Idx → EReal) (ix2 b l)
      = 0 - lse2 ((X (Proc.devRef .tc main_v21_5) : S16x513.Idx → EReal) (ix2 b ⟨2 * N, by omega⟩))
          ((X (Proc.devRef .tc main_v21_5) : S16x513.Idx → EReal) (ix2 b ⟨2 * N - 1, by omega⟩)) := by
  have e := twice_at (X (Proc.devRef .tc main_arg3)) b
  rw [h] at e
  rw [out_eq, finish_at, pick_at _ _ b ⟨2 * N, by omega⟩ e, pick_at _ _ b ⟨2 * N - 1, by omega⟩ (less_at _ b (2 * N) (by omega) e)]

end Cert.Ctc

end
-- ==== Proof.Fold.lean ====
/- The points of the grid in turn: after each one the carried rows are those of the recursion at its last step. -/
module

public import proofs.«01_k».proof.Proof.Model
public import proofs.«01_k».proof.Proof.Gen.KernelIdeal.Value

@[expose] public section

set_option maxRecDepth 65536

noncomputable section

namespace Cert.Ctc

open Idealize.ShloMosaic Cert.KernelIdeal Cert.KernelIdeal.Gen Cert.KernelIdeal.Value
open Idealize.ShloMosaic.TcCoe Idealize.SL.Sem

variable (m : (ℓ : Loc nD τ sig) → Buf (Elt Ideal) ℓ)

/-- What the carried rows and columns are after a point. -/
def Inv (lg : S16x2048x64.Idx → EReal) (tg : Vec Ideal S16x256 .i32) (il : Vec Ideal S16x1 .i32) (n : ℕ)
    (st : Vec Ideal S16x128 .f32 × Vec Ideal S16x384 .f32 × Vec Ideal S16x384 .f32 × Vec Ideal S16x64x256 .f32) : Prop :=
  (∀ b, Rows (emit lg tg b) (jump tg b) (alive (il (ix2 b 0))) (256 * n + 255) (row st.2.1 b) (row st.2.2.1 b)) ∧ st.2.2.2 = ohT tg

/-- What the blocks of the inputs are, and what is asked of them. -/
def Blocks (c : Dev nD) (lg : S16x2048x64.Idx → EReal) (tg : Vec Ideal S16x256 .i32) (sw : Vec Ideal S16x384 .i32)
    (il tl : Vec Ideal S16x1 .i32) : Prop :=
  ((∀ t, iblk m c 0 t = tg) ∧ ∀ (b : Fin 16) (l : Fin 256), (tg (ix2 b l)).toNat < 64)
  ∧ ((∀ t, iblk m c 1 t = sw) ∧ ∀ b, Lanes (jump tg b) sw b)
  ∧ ((∀ t, iblk m c 2 t = il) ∧ ∀ (b : Fin 16) (k : ℕ), k < 1024 → alive (il (ix2 b 0)) k)
  ∧ (∀ t, iblk m c 3 t = tl)
  ∧ ∀ (t : Fin cfg0.N) (ht : t.val < 8) (b : Fin 16) (k : Fin 256) (u : Fin 64),
    (iblk m c 4 t : S16x256x64.Idx → EReal) (ix3 b k u) = lg (ix3 b ⟨256 * t.val + k.val, by omega⟩ u)

theorem coord (t : Fin cfg0.N) : (grid0.coords t 0).val = t.val := (by decide +kernel : ∀ t : Fin grid0.N, (grid0.coords t 0).val = t.val) t

set_option maxHeartbeats 2000000 in
theorem foldA (c : Dev nD) (t : Fin cfg0.N) (acc : Vec Ideal S16x128 .f32 × Vec Ideal S16x384 .f32 × Vec Ideal S16x384 .f32 × Vec Ideal S16x64x256 .f32)
    (h0 : t.val % 8 = 0) (h2 : ¬(1 ≤ t.val % 8 ∧ t.val % 8 ≤ 3)) (h3 : ¬4 ≤ t.val) (h4 : ¬t.val % 8 = 7) {lg : S16x2048x64.Idx → EReal} {tg : Vec Ideal S16x256 .i32} {sw : Vec Ideal S16x384 .i32} {il tl : Vec Ideal S16x1 .i32}
    (hx : Blocks m c lg tg sw il tl) :
    Inv lg tg il t.val (stAt0 m c t.val t.isLt acc) := by
  have ht : t.val < 8 := lt_of_lt_of_eq t.isLt N_0
  have hco := coord t
  obtain ⟨X10, X11, v, w, h10, h11, hv, hw, e0, e1, e2⟩ := runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t)
    ((hcond0_0 t).mpr h0) ((hcond0_1 t).mpr h0) (fun h => h2 ((hcond0_2 t).mp h)) (fun h => h3 ((hcond0_3 t).mp h)) (fun h => h4 ((hcond0_4 t).mp h))
  rw [stAt0_A m c t acc h0 h0 h2 h3 h4]
  obtain ⟨b0, b1, b2, b3, b4⟩ := hx
  have hT : ∀ b, Tab (emit lg tg b) b (256 * t.val) (elT (k0_pay26 (iblk m c 4 t)) (ohT (iblk m c 0 t))) (ebT (k0_pay26 (iblk m c 4 t))) := fun b => by
    rw [b0.1 t]
    exact tab lg tg b t.val ht (iblk m c 4 t) (b4 t ht b) (b0.2 b)
  have ht0 : t.val = 0 := by omega
  simp only [ht0, Nat.mul_zero] at hT
  refine ⟨fun b => ?_, by dsimp only; rw [e2, b0.1 t]⟩
  dsimp only
  rw [e0, e1, show 256 * t.val + 255 = 255 by omega]
  obtain ⟨-, hb, ho, -⟩ := hT b 0
  refine loop1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 1 t) ((hcond0_1 t).mpr h0) X10 X11 h10 h11 b (k0_pay86 v, k0_pay87 w) ?_ (by rw [b1.1 t]; exact b1.2 b) (hT b) (fun k _ hk => b2.2 b k (by omega)) 255 le_rfl
  refine Rows.zero _ _ _ ?_ (fun k hk0 hk => ?_) ?_ (fun k hk0 hk => ?_)
  · rw [row_lt _ _ (by omega)]
    refine (pay86 v b ⟨0, by omega⟩).trans ((if_pos (show ((⟨0, by omega⟩ : Fin 384).val = 0) from rfl)).trans ((hv b _).trans ?_))
    exact (hb 0 (by omega)).symm
  · rw [row_lt _ _ (by omega)]
    exact (pay86 v b _).trans (if_neg (by show ¬ k = 0; omega))
  · rw [row_lt _ _ (by omega)]
    refine (pay87 w b ⟨0, by omega⟩).trans ((if_pos (show ((⟨0, by omega⟩ : Fin 384).val = 0) from rfl)).trans ((hw b _).trans ?_))
    exact ho 0 (by show 0 < 256; omega)
  · rw [row_lt _ _ (by omega)]
    exact (pay87 w b _).trans (if_neg (by show ¬ k = 0; omega))

set_option maxHeartbeats 2000000 in
theorem foldB (c : Dev nD) (t : Fin cfg0.N) (acc : Vec Ideal S16x128 .f32 × Vec Ideal S16x384 .f32 × Vec Ideal S16x384 .f32 × Vec Ideal S16x64x256 .f32)
    (h0 : ¬t.val % 8 = 0) (h2 : (1 ≤ t.val % 8 ∧ t.val % 8 ≤ 3)) (h3 : ¬4 ≤ t.val) (h4 : ¬t.val % 8 = 7) {lg : S16x2048x64.Idx → EReal} {tg : Vec Ideal S16x256 .i32} {sw : Vec Ideal S16x384 .i32} {il tl : Vec Ideal S16x1 .i32}
    (hx : Blocks m c lg tg sw il tl) {n : ℕ} (hn : t.val = n + 1) (hI : Inv lg tg il n acc) :
    Inv lg tg il t.val (stAt0 m c t.val t.isLt acc) := by
  have ht : t.val < 8 := lt_of_lt_of_eq t.isLt N_0
  have hco := coord t
  obtain ⟨X10, X11, h10, h11, e0, e1⟩ := runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) acc.2.1 acc.2.2.1 acc.2.2.2
    (fun h => h0 ((hcond0_0 t).mp h)) (fun h => h0 ((hcond0_1 t).mp h)) ((hcond0_2 t).mpr h2) (fun h => h3 ((hcond0_3 t).mp h)) (fun h => h4 ((hcond0_4 t).mp h))
  rw [stAt0_B m c t acc h0 h0 h2 h3 h4]
  obtain ⟨b0, b1, b2, b3, b4⟩ := hx
  have hT : ∀ b, Tab (emit lg tg b) b (256 * t.val) (elT (k0_pay26 (iblk m c 4 t)) acc.2.2.2) (ebT (k0_pay26 (iblk m c 4 t))) := fun b => by
    rw [hI.2]
    exact tab lg tg b t.val ht (iblk m c 4 t) (b4 t ht b) (b0.2 b)
  refine ⟨fun b => ?_, hI.2⟩
  dsimp only
  rw [e0, e1, show 256 * t.val + 255 = 256 * n + 255 + 256 by omega]
  exact loop2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 1 t) ((hcond0_2 t).mpr h2) X10 X11 h10 h11 b (acc.2.1, acc.2.2.1) (hI.1 b) (by rw [b1.1 t]; exact b1.2 b) (by rw [show 256 * n + 255 + 1 = 256 * t.val by omega]; exact hT b) (fun k hk => b2.2 b _ (by omega)) 256 le_rfl

set_option maxHeartbeats 2000000 in
theorem foldC (c : Dev nD) (t : Fin cfg0.N) (acc : Vec Ideal S16x128 .f32 × Vec Ideal S16x384 .f32 × Vec Ideal S16x384 .f32 × Vec Ideal S16x64x256 .f32)
    (h0 : ¬t.val % 8 = 0) (h2 : ¬(1 ≤ t.val % 8 ∧ t.val % 8 ≤ 3)) (h3 : 4 ≤ t.val) (h4 : ¬t.val % 8 = 7) {lg : S16x2048x64.Idx → EReal} {tg : Vec Ideal S16x256 .i32} {sw : Vec Ideal S16x384 .i32} {il tl : Vec Ideal S16x1 .i32}
    (hx : Blocks m c lg tg sw il tl) {n : ℕ} (hn : t.val = n + 1) (hI : Inv lg tg il n acc) :
    Inv lg tg il t.val (stAt0 m c t.val t.isLt acc) := by
  have ht : t.val < 8 := lt_of_lt_of_eq t.isLt N_0
  have hco := coord t
  obtain ⟨X10, X11, h10, h11, e0, e1⟩ := runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) acc.2.1 acc.2.2.1 acc.2.2.2
    (fun h => h0 ((hcond0_0 t).mp h)) (fun h => h0 ((hcond0_1 t).mp h)) (fun h => h2 ((hcond0_2 t).mp h)) ((hcond0_3 t).mpr h3) (fun h => h4 ((hcond0_4 t).mp h))
  rw [stAt0_C m c t acc h0 h0 h2 h3 h4]
  obtain ⟨b0, b1, b2, b3, b4⟩ := hx
  have hT : ∀ b, Tab (emit lg tg b) b (256 * t.val) (elT (k0_pay26 (iblk m c 4 t)) acc.2.2.2) (ebT (k0_pay26 (iblk m c 4 t))) := fun b => by
    rw [hI.2]
    exact tab lg tg b t.val ht (iblk m c 4 t) (b4 t ht b) (b0.2 b)
  refine ⟨fun b => ?_, hI.2⟩
  dsimp only
  rw [e0, e1, show 256 * t.val + 255 = 256 * n + 255 + 256 by omega]
  rw [show BitVec.ofNat 32 (grid0.coords t 0).val = BitVec.ofNat 32 t.val by rw [hco]]
  exact loop3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 1 t) (iblk m c 2 t) ((hcond0_3 t).mpr h3) t.val X10 X11 h10 h11 b (acc.2.1, acc.2.2.1) (hI.1 b) (by rw [b1.1 t]; exact b1.2 b) (by rw [show 256 * n + 255 + 1 = 256 * t.val by omega]; exact hT b) (by omega) (fun k => by rw [b2.1 t]; rfl) 256 le_rfl

set_option maxHeartbeats 2000000 in
theorem foldD (c : Dev nD) (t : Fin cfg0.N) (acc : Vec Ideal S16x128 .f32 × Vec Ideal S16x384 .f32 × Vec Ideal S16x384 .f32 × Vec Ideal S16x64x256 .f32)
    (h0 : ¬t.val % 8 = 0) (h2 : ¬(1 ≤ t.val % 8 ∧ t.val % 8 ≤ 3)) (h3 : 4 ≤ t.val) (h4 : t.val % 8 = 7) {lg : S16x2048x64.Idx → EReal} {tg : Vec Ideal S16x256 .i32} {sw : Vec Ideal S16x384 .i32} {il tl : Vec Ideal S16x1 .i32}
    (hx : Blocks m c lg tg sw il tl) {n : ℕ} (hn : t.val = n + 1) (hI : Inv lg tg il n acc) (b : Fin 16) (l : Fin 128) (N : ℕ) (hN : 1 ≤ N) (hN' : N ≤ 256) (htl : tl (ix2 b 0) = BitVec.ofNat 32 N) :
    (stAt0 m c t.val t.isLt acc).1 (ix2 b l) = loss lg tg (il (ix2 b 0)) b N := by
  have ht : t.val < 8 := lt_of_lt_of_eq t.isLt N_0
  have hco := coord t
  obtain ⟨X10, X11, h10, h11, e0, e1, e5⟩ := runD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) acc.2.1 acc.2.2.1 acc.2.2.2
    (fun h => h0 ((hcond0_0 t).mp h)) (fun h => h0 ((hcond0_1 t).mp h)) (fun h => h2 ((hcond0_2 t).mp h)) ((hcond0_3 t).mpr h3) ((hcond0_4 t).mpr h4)
  rw [stAt0_D m c t acc h0 h0 h2 h3 h4]
  obtain ⟨b0, b1, b2, b3, b4⟩ := hx
  have hT : ∀ b, Tab (emit lg tg b) b (256 * t.val) (elT (k0_pay26 (iblk m c 4 t)) acc.2.2.2) (ebT (k0_pay26 (iblk m c 4 t))) := fun b => by
    rw [hI.2]
    exact tab lg tg b t.val ht (iblk m c 4 t) (b4 t ht b) (b0.2 b)
  dsimp only
  rw [e5]
  refine last lg tg _ b _ _ (iblk m c 3 t) ?_ l N hN hN' (by rw [b3 t]; exact htl)
  rw [show BitVec.ofNat 32 (grid0.coords t 0).val = BitVec.ofNat 32 t.val by rw [hco], show 2047 = 256 * n + 255 + 256 by omega]
  exact loop3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 1 t) (iblk m c 2 t) ((hcond0_3 t).mpr h3) t.val X10 X11 h10 h11 b (acc.2.1, acc.2.2.1) (hI.1 b) (by rw [b1.1 t]; exact b1.2 b) (by rw [show 256 * n + 255 + 1 = 256 * t.val by omega]; exact hT b) (by omega) (fun k => by rw [b2.1 t]; rfl) 256 le_rfl

/-- The kernel's array at an index. -/
theorem result (c : Dev nD) {lg : S16x2048x64.Idx → EReal} {tg : Vec Ideal S16x256 .i32} {sw : Vec Ideal S16x384 .i32} {il tl : Vec Ideal S16x1 .i32}
    (hx : Blocks m c lg tg sw il tl) (b : Fin 16) (l : Fin 128) (N : ℕ) (hN : 1 ≤ N) (hN' : N ≤ 256) (htl : tl (ix2 b 0) = BitVec.ofNat 32 N) :
    (G5 m c : S16x128.Idx → EReal) (ix2 b l) = loss lg tg (il (ix2 b 0)) b N := by
  have inv : ∀ (n : ℕ) (hn : n < cfg0.N), n < 7 → Inv lg tg il n (outsAt0 m c n hn) := by
    intro n
    induction n with
    | zero =>
      intro hn _
      rw [outsAt0_zero]
      exact foldA m c ⟨0, hn⟩ junk0 (by simp) (by simp) (by simp) (by simp) hx
    | succ n ih =>
      intro hn h7
      rw [outsAt0_succ]
      have hI := ih (by omega) (by omega)
      by_cases h3 : n + 1 < 4
      · exact foldB m c ⟨n + 1, hn⟩ _ (by show ¬ (n + 1) % 8 = 0; omega) (by show 1 ≤ (n + 1) % 8 ∧ (n + 1) % 8 ≤ 3; omega)
          (by show ¬ 4 ≤ n + 1; omega) (by show ¬ (n + 1) % 8 = 7; omega) hx rfl hI
      · exact foldC m c ⟨n + 1, hn⟩ _ (by show ¬ (n + 1) % 8 = 0; omega) (by show ¬ (1 ≤ (n + 1) % 8 ∧ (n + 1) % 8 ≤ 3); omega)
          (by show 4 ≤ n + 1; omega) (by show ¬ (n + 1) % 8 = 7; omega) hx rfl hI
  have h7 : 7 < cfg0.N := lt_of_lt_of_eq (by decide) N_0.symm
  rw [G5_last, ← outsAt0_sweep m c 7 h7, outsAt0_succ]
  exact foldD m c ⟨7, h7⟩ _ (by show ¬ 7 % 8 = 0; omega) (by show ¬ (1 ≤ 7 % 8 ∧ 7 % 8 ≤ 3); omega)
    (by show 4 ≤ 7; omega) (by show 7 % 8 = 7; omega) hx rfl (inv 6 (by omega) (by omega)) b l N hN hN' htl

end Cert.Ctc

end
-- ==== Proof.Entry.lean ====
/- What the host operations before the region make of the labels. -/
module

public import proofs.«01_k».proof.Proof.Gen.KernelIdeal.Value
public import Idealize.ShloMosaic.Lib.Pointwise
public import Idealize.ShloMosaic.Lib.StableHlo.RunClose

@[expose] public section

set_option maxRecDepth 65536

noncomputable section

namespace Cert.Ctc

open Idealize.ShloMosaic Cert.KernelIdeal Cert.KernelIdeal.Gen Cert.KernelIdeal.Value
open Idealize.ShloMosaic.TcCoe Idealize.SL.Sem

variable (m : (ℓ : Loc nD τ sig) → Buf (Elt Ideal) ℓ)

/-- Where neighbouring labels differ, in the layout of the second window: 1 in lane 0, then lane `k` is 1 when
    label `k` differs from label `k - 1`, and 0 from lane 256 on. -/
def differ (tg : IVec S16x256 32) : IVec S16x384 32 :=
  concatenate S16x384 1 [⟨S16x1, broadcastInDim S16x1 ![] bcast_S_S16x1 (constantI S_ 32 1#32)⟩,
    ⟨S16x255, extui 32 (cmpi .ne (extractStridedSlice S16x255 ![0, 1] tg slices_S16x256_S16x255_0_1)
      (extractStridedSlice S16x255 ![0, 0] tg slices_S16x256_S16x255_0_0)) natLt_1_32⟩,
    ⟨S16x128, broadcastInDim S16x128 ![] bcast_S_S16x128 (constantI S_ 32 0#32)⟩] concatenates_S16x1_S16x255_S16x128_S16x384_d1

set_option maxHeartbeats 1000000 in
theorem entry_v8 (c : Dev nD) : (V m c main_v8 : S16x384.Idx → BitVec 32) = differ (m ((c : Thread nD τ).loc main_arg1)) := by
  unfold differ
  show StableHlo.after hostOps0 (fun b => m (c, b)) (Proc.devRef .tc main_v8) = _
  simp only [hostOps0]
  after_results_entrywise []

theorem differ_at (tg : IVec S16x256 32) (b : Fin 16) (k : ℕ) (hk : 0 < k) (hk' : k < 256) :
    differ tg (ix2 b ⟨k, by omega⟩) = if tg (ix2 b ⟨k, hk'⟩) = tg (ix2 b ⟨k - 1, by omega⟩) then 0#32 else 1#32 := by
  pointwise [differ]
  rw [dif_neg (by omega), dif_pos (by omega)]
  have e : (⟨1 + (k - 1), by omega⟩ : Fin 256) = ⟨k, hk'⟩ := Fin.ext (by show 1 + (k - 1) = k; omega)
  rw [e]
  by_cases h : tg (ix2 b ⟨k, hk'⟩) = tg (ix2 b ⟨k - 1, by omega⟩)
  · rw [if_pos h, h]
    simp [IntOp.cmpi]
  · rw [if_neg h]
    show BitVec.setWidth 32 (BitVec.ofBool (tg (ix2 b ⟨k, hk'⟩) != tg (ix2 b ⟨k - 1, by omega⟩))) = 1#32
    rw [bne_iff_ne.mpr h]
    rfl

end Cert.Ctc

end
-- ==== Proof.Inputs.lean ====
/- The arrays the kernel's windows read, off the arguments, and what the input ranges say of them. -/
module

public import proofs.«01_k».proof.Proof.Fold
public import proofs.«01_k».proof.Proof.Entry
public import proofs.«01_k».proof.Proof.Gen.Pre_ranges
public import proofs.«01_k».proof.Defs

@[expose] public section

set_option maxRecDepth 65536

noncomputable section

namespace Cert.Ctc

open Idealize.ShloMosaic Cert.KernelIdeal Cert.KernelIdeal.Gen Cert.KernelIdeal.Value
open Idealize.ShloMosaic.TcCoe Idealize.SL.Sem

variable (m : (ℓ : Loc nD τ sig) → Buf (Elt Ideal) ℓ)

/-- What the input ranges say: labels from 1 to 63, sequence lengths of at least 1024 steps, 1 to 256 labels. -/
structure Ranges (tg : S16x256.Idx → BitVec 32) (il tl : S16.Idx → BitVec 32) : Prop where
  pos : ∀ b l, 1 ≤ (tg (ix2 b l)).toInt
  lt : ∀ b l, (tg (ix2 b l)).toInt < 64
  long : ∀ b, 1024 ≤ (il (ix1 b)).toInt
  some : ∀ b, 1 ≤ (tl (ix1 b)).toInt
  most : ∀ b, (tl (ix1 b)).toInt ≤ 256

theorem ofBool_and (p q : Bool) : IntOp.andi (BitVec.ofBool p) (BitVec.ofBool q) = BitVec.ofBool (p && q) := by
  cases p <;> cases q <;> rfl

theorem ofBool_one' (p : Bool) : BitVec.ofBool p = 1#1 ↔ p = true := by cases p <;> decide

theorem ranges_of_fn (x : FVec Ideal Cert.Pre_ranges.S16x2048x64 .f32) (tg : S16x256.Idx → BitVec 32) (il tl : S16.Idx → BitVec 32)
    (h : ∀ y, Cert.Pre_ranges.fn (F := Ideal) x tg il tl y = 1#1) : Ranges tg il tl := by
  have key : ∀ (b : Fin 16) (l : Fin 256), (1 ≤ (tg (ix2 b l)).toInt ∧ (tg (ix2 b l)).toInt < 64) ∧ 1024 ≤ (il (ix1 b)).toInt
      ∧ 1 ≤ (tl (ix1 b)).toInt ∧ (tl (ix1 b)).toInt ≤ 256 := by
    intro b l
    have e := h (ix2 b l)
    revert e
    pointwise [Cert.Pre_ranges.fn]
    intro e
    simp only [IntOp.cmpi, ofBool_and, ofBool_one', Bool.and_eq_true] at e
    obtain ⟨⟨⟨⟨e1, e2⟩, e3⟩, e4⟩, e5⟩ := e
    have s1 : (1#32).toInt = 1 := by decide
    have s2 : (64#32).toInt = 64 := by decide
    have s3 : (1024#32).toInt = 1024 := by decide
    have s4 : (256#32).toInt = 256 := by decide
    simp only [BitVec.sle, BitVec.slt, decide_eq_true_eq, s1, s2, s3, s4] at e1 e2 e3 e4 e5
    exact ⟨⟨e1, e2⟩, e3, e4, e5⟩
  exact ⟨fun b l => (key b l).1.1, fun b l => (key b l).1.2, fun b => (key b 0).2.1, fun b => (key b 0).2.2.1, fun b => (key b 0).2.2.2⟩

theorem blk0 (c : Dev nD) (t : Fin cfg0.N) : (iblk m c 0 t : S16x256.Idx → BitVec 32) = m ((c : Thread nD τ).loc main_arg1) := by
  have e : ∀ t : Fin cfg0.N, win0_0.index t = ![0, 0] := (by decide +kernel : ∀ t : Fin grid0.N, _)
  funext y
  blk_ext! [iblk, V_main_arg1, e t]

theorem blk1 (c : Dev nD) (t : Fin cfg0.N) : (iblk m c 1 t : S16x384.Idx → BitVec 32) = V m c main_v8 := by
  have e : ∀ t : Fin cfg0.N, win0_1.index t = ![0, 0] := (by decide +kernel : ∀ t : Fin grid0.N, _)
  funext y
  blk_ext [iblk, e t]

theorem blk2 (c : Dev nD) (t : Fin cfg0.N) : (iblk m c 2 t : S16x1.Idx → BitVec 32) = V m c main_v0 := by
  have e : ∀ t : Fin cfg0.N, win0_2.index t = ![0, 0] := (by decide +kernel : ∀ t : Fin grid0.N, _)
  funext y
  blk_ext [iblk, e t]

theorem blk3 (c : Dev nD) (t : Fin cfg0.N) : (iblk m c 3 t : S16x1.Idx → BitVec 32) = V m c main_v1 := by
  have e : ∀ t : Fin cfg0.N, win0_3.index t = ![0, 0] := (by decide +kernel : ∀ t : Fin grid0.N, _)
  funext y
  blk_ext [iblk, e t]

theorem blk4 (c : Dev nD) (t : Fin cfg0.N) (ht : t.val < 8) (b : Fin 16) (k : Fin 256) (u : Fin 64) :
    (iblk m c 4 t : S16x256x64.Idx → EReal) (ix3 b k u)
      = (m ((c : Thread nD τ).loc main_arg0) : S16x2048x64.Idx → EReal) (ix3 b ⟨256 * t.val + k.val, by omega⟩ u) := by
  have e : ∀ t : Fin cfg0.N, win0_4.index t = ![0, t.val, 0] := (by decide +kernel : ∀ t : Fin grid0.N, _)
  blk_ext! [iblk, V_main_arg0, e t]

theorem entry_v0 (c : Dev nD) (b : Fin 16) : (V m c main_v0 : S16x1.Idx → BitVec 32) (ix2 b 0) = (m ((c : Thread nD τ).loc main_arg2) : S16.Idx → BitVec 32) (ix1 b) := by
  entry_read
  pointwise

theorem entry_v1 (c : Dev nD) (b : Fin 16) : (V m c main_v1 : S16x1.Idx → BitVec 32) (ix2 b 0) = (m ((c : Thread nD τ).loc main_arg3) : S16.Idx → BitVec 32) (ix1 b) := by
  entry_read
  pointwise

theorem Ranges.nat_lt {tg : S16x256.Idx → BitVec 32} {il tl : S16.Idx → BitVec 32} (h : Ranges tg il tl) (b : Fin 16) (l : Fin 256) :
    (tg (ix2 b l)).toNat < 64 := by
  have h1 := h.pos b l
  have h2 := h.lt b l
  have h3 := (tg (ix2 b l)).isLt
  rw [BitVec.toInt_eq_toNat_cond] at h1 h2
  split at h1 <;> omega

theorem Ranges.count {tg : S16x256.Idx → BitVec 32} {il tl : S16.Idx → BitVec 32} (h : Ranges tg il tl) (b : Fin 16) :
    1 ≤ (tl (ix1 b)).toNat ∧ (tl (ix1 b)).toNat ≤ 256 := by
  have h1 := h.some b
  have h2 := h.most b
  have h3 := (tl (ix1 b)).isLt
  rw [BitVec.toInt_eq_toNat_cond] at h1 h2
  split at h1 <;> omega

/-- The lanes of the second window say where the recursion may jump. -/
theorem lanes (tg : IVec S16x256 32) (h : ∀ (b : Fin 16) (l : Fin 256), (tg (ix2 b l)).toNat < 64) (b : Fin 16) :
    Lanes (jump tg b) (differ tg) b := by
  refine ⟨fun k hj => by have := hj.1; omega, fun k hk hk' => ?_⟩
  have e1 := lab_odd tg b ⟨k, hk'⟩ (h b _)
  have e2 := lab_odd tg b ⟨k - 1, by omega⟩ (h b _)
  have hd := differ_at tg b k hk hk'
  have hs : (2 * k + 1) - 2 = 2 * (k - 1) + 1 := by omega
  constructor
  · rintro ⟨hlt, hne⟩
    refine ⟨by omega, by omega, fun he => hne ?_⟩
    rw [hs] at he
    rw [hd, if_pos]
    exact BitVec.eq_of_toNat_eq (e1.symm.trans ((congrArg Fin.val he).trans e2))
  · rintro ⟨-, -, hne⟩
    refine ⟨by omega, ?_⟩
    rw [hd, if_neg]
    · decide
    · intro he
      rw [hs] at hne
      exact hne (Fin.ext (e1.trans ((congrArg BitVec.toNat he).trans e2.symm)))

theorem alive_long {n : BitVec 32} (h : 1024 ≤ n.toInt) (k : ℕ) (hk : k < 1024) : alive n k := by
  unfold alive
  rw [BitVec.slt, decide_eq_true_eq, BitVec.toInt_eq_toNat_cond (BitVec.ofNat 32 k), BitVec.toNat_ofNat, Nat.mod_eq_of_lt (by omega), if_pos (by omega)]
  omega

/-- The blocks of the inputs are those of the recursion, when the arguments are in their ranges. -/
theorem blocks (c : Dev nD) (h : Ranges (m ((c : Thread nD τ).loc main_arg1)) (m ((c : Thread nD τ).loc main_arg2)) (m ((c : Thread nD τ).loc main_arg3))) :
    Blocks m c (m ((c : Thread nD τ).loc main_arg0)) (m ((c : Thread nD τ).loc main_arg1)) (differ (m ((c : Thread nD τ).loc main_arg1))) (V m c main_v0) (V m c main_v1) := by
  refine ⟨⟨blk0 m c, h.nat_lt⟩, ⟨fun t => (blk1 m c t).trans (entry_v8 m c), lanes _ h.nat_lt⟩, ⟨blk2 m c, fun b k hk => ?_⟩, blk3 m c, blk4 m c⟩
  refine alive_long ?_ k hk
  rw [entry_v0]
  exact h.long b

/-- The kernel's result, off its arguments. -/
theorem kernel_value (c : Dev nD) (h : Ranges (m ((c : Thread nD τ).loc main_arg1)) (m ((c : Thread nD τ).loc main_arg2)) (m ((c : Thread nD τ).loc main_arg3)))
    (b : Fin 16) (l : Fin 128) :
    (G5 m c : S16x128.Idx → EReal) (ix2 b l)
      = loss (m ((c : Thread nD τ).loc main_arg0)) (m ((c : Thread nD τ).loc main_arg1)) ((m ((c : Thread nD τ).loc main_arg2) : S16.Idx → BitVec 32) (ix1 b)) b
          ((m ((c : Thread nD τ).loc main_arg3) : S16.Idx → BitVec 32) (ix1 b)).toNat := by
  refine (result m c (blocks m c h) b l ((m ((c : Thread nD τ).loc main_arg3) : S16.Idx → BitVec 32) (ix1 b)).toNat (h.count b).1 (h.count b).2 ?_).trans ?_
  · rw [entry_v1, BitVec.ofNat_toNat, BitVec.setWidth_eq]
  · rw [entry_v0]

end Cert.Ctc

end
-- ==== Proof.RefValue.lean ====
/- The reference's result, off its arguments. -/
module

public import proofs.«01_k».proof.Proof.RefLoop
public import proofs.«01_k».proof.Proof.RefOut
public import proofs.«01_k».proof.Proof.Inputs

@[expose] public section

noncomputable section

namespace Cert.Ctc

open Idealize.ShloMosaic Cert.ReferenceIdeal Cert.ReferenceIdeal.Gen Cert.ReferenceIdeal.Value
open Idealize.ShloMosaic.TcCoe Idealize.SL.Sem Idealize.ShloMosaic.StableHlo

variable (m : (ℓ : Loc nD τ sig) → Buf (Elt Ideal) ℓ)

theorem Ranges.nat_pos {tg : S16x256.Idx → BitVec 32} {il tl : S16.Idx → BitVec 32} (h : Ranges tg il tl) (b : Fin 16) (l : Fin 256) :
    0 < (tg (ix2 b l)).toNat := by
  have p := h.pos b l
  rw [BitVec.toInt_eq_toNat_cond] at p
  by_contra hz
  rw [Nat.eq_zero_of_not_pos hz] at p
  exact absurd p (by decide)

/-- The reference's result, off its arguments. -/
theorem reference_value (c : Dev nD) (h : Ranges (m ((c.tc : Thread nD τ).loc main_arg1)) (m ((c.tc : Thread nD τ).loc main_arg2)) (m ((c.tc : Thread nD τ).loc main_arg3)))
    (b : Fin 16) (l : Fin 128) :
    (out_main_v44 (STEP^[2047] (entryContents preI m c)) : S16x128.Idx → EReal) (ix2 b l)
      = loss (m ((c.tc : Thread nD τ).loc main_arg0)) (m ((c.tc : Thread nD τ).loc main_arg1)) ((m ((c.tc : Thread nD τ).loc main_arg2) : S16.Idx → BitVec 32) (ix1 b)) b
          ((m ((c.tc : Thread nD τ).loc main_arg3) : S16.Idx → BitVec 32) (ix1 b)).toNat := by
  have T := (first m c h.nat_lt).iter h.nat_lt h.nat_pos 2047 (by decide)
  rw [out_at _ b l _ (h.count b).1 (h.count b).2 (by rw [iter_main_arg3]), T.states, T.states]
  rfl

end Cert.Ctc

end
-- ==== Proof.lean ====
/- The proof of the certificate: the three frames, the named constants, and that kernel and reference return the same. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_ranges
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs and ends with its arguments unchanged; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- Kernel and reference return the same, on arguments in their ranges. -/
theorem same_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_ranges m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.out_main_v44 (Cert.ReferenceIdeal.Value.STEP^[2047] (StableHlo.entryContents Cert.ReferenceIdeal.Value.preI m' c)) : Cert.KernelIdeal.S16x128.Idx → EReal)
      = Cert.KernelIdeal.Value.G5 m c := by
  have r := Cert.Ctc.ranges_of_fn _ _ _ _ (fun y => congrFun (h c) y)
  have r' := r
  rw [← h1, ← h2, ← h3] at r'
  funext i
  obtain ⟨b, l, rfl⟩ : ∃ (b : Fin 16) (l : Fin 128), i = ix2 b l := ⟨i 0, i 1, eq_ix2 i⟩
  rw [Cert.Ctc.reference_value m' c r' b l, h0, h1, h2, h3]
  exact (Cert.Ctc.kernel_value m c r b l).symm

theorem algebraic : Cert.algebraic_KernelIdeal_ReferenceIdeal_pre_ranges := by
  intro m g m' g' h ha
  refine ⟨fun c => Cert.KernelIdeal.Value.G5 m c, Cert.KernelIdeal.Value.run m g, ?_⟩
  refine (θ_run Cert.ReferenceIdeal.defs _ _).mono (fun r k c => ⟨(k c).1.trans ?_, (k c).2⟩) (Cert.ReferenceIdeal.Value.run m' g')
  exact same_value m m' h c (ha c).1 (ha c).2.1 (ha c).2.2.1 (ha c).2.2.2

theorem claim : Cert.Claim := ⟨Cert.Kernel.Gen.facts, Cert.KernelIdeal.Gen.facts, Cert.ReferenceIdeal.Gen.facts, Cert.Pre_ranges.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl,
   IdealRules.named_const.statement Cert.KernelIdeal.κ "ln2" .f32 0x3F317218#32 ((Real.log 2 : ℝ) : EReal) rfl⟩,
  algebraic⟩

end Cert.Proof

end
